-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 8192]⟩ ⟨2, ![4096, 8192]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x512 : Shape := ⟨2, ![4096, 512]⟩
abbrev S512x8192 : Shape := ⟨2, ![512, 8192]⟩
abbrev S4096x8192 : Shape := ⟨2, ![4096, 8192]⟩
abbrev S2x256x4096 : Shape := ⟨3, ![2, 256, 4096]⟩
abbrev S2x2x2 : Shape := ⟨3, ![2, 2, 2]⟩
abbrev S2x2 : Shape := ⟨2, ![2, 2]⟩
abbrev S512x512 : Shape := ⟨2, ![512, 512]⟩
abbrev S512x4096 : Shape := ⟨2, ![512, 4096]⟩
abbrev S256x4096 : Shape := ⟨2, ![256, 4096]⟩
abbrev S1x256x4096 : Shape := ⟨3, ![1, 256, 4096]⟩
abbrev S_ : Shape := ⟨0, ![]⟩
abbrev S1x1x1 : Shape := ⟨3, ![1, 1, 1]⟩
abbrev S1x1 : Shape := ⟨2, ![1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x8192, .bf16⟩
  | .hbm, ⟨2, _⟩ => ⟨S4096x8192, .bf16⟩
  | .local _ .vmem, ⟨0, _⟩ => ⟨S4096x512, .bf16⟩
  | .local _ .vmem, ⟨1, _⟩ => ⟨S512x8192, .bf16⟩
  | .local _ .vmem, ⟨2, _⟩ => ⟨S2x256x4096, .bf16⟩
  | .local _ .vmem, ⟨3, _⟩ => ⟨S2x256x4096, .bf16⟩
  | .local _ .vmem, ⟨4, _⟩ => ⟨S2x256x4096, .bf16⟩
  | .local _ .vmem, ⟨5, _⟩ => ⟨S2x256x4096, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 5 → Bool
  | ⟨0, _⟩ => true
  | ⟨1, _⟩ => true
  | ⟨2, _⟩ => true
  | ⟨3, _⟩ => true
  | ⟨4, _⟩ => false
  | _ => false

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  (ofTc nBuf bufTy 5 26 bufScoped semScoped dmaSemScoped tileCredit tileCredit_eq_zero tileCredit_pos).withBarriers [(0, 4)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 4

abbrev nD : Nat := 8
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v26 : BitVec 32 := Scalar.muli v2 c512_i32
  let v27 : Index := Scalar.indexCast v26
  let c0 : Index := 0#32
  ![v27.toNat, 0]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_33 : BitVec 32 := 1#32
  let v59 : BitVec 32 := Scalar.muli v14 c1_i32_33
  let v60 : BitVec 32 := Scalar.addi c0_i32_34 v59
  v60.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_36 : BitVec 32 := 1#32
  let v61 : BitVec 32 := Scalar.muli v25 c1_i32_36
  let v62 : BitVec 32 := Scalar.addi c0_i32_37 v61
  v62.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_46 : BitVec 32 := 1#32
  let v63 : BitVec 32 := Scalar.muli v25 c1_i32_46
  let v64 : BitVec 32 := Scalar.addi c0_i32_47 v63
  v64.toNat
def k0_dev4 (d0 : Dev nD) : Nat :=
  let c0_i32_61 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_60 : BitVec 32 := 1#32
  let v73 : BitVec 32 := Scalar.muli v14 c1_i32_60
  let v74 : BitVec 32 := Scalar.addi c0_i32_61 v73
  v74.toNat
def k0_dev5 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_74 : BitVec 32 := 1#32
  let v83 : BitVec 32 := Scalar.muli v25 c1_i32_74
  let v84 : BitVec 32 := Scalar.addi c0_i32_75 v83
  v84.toNat
def k0_dev6 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_88 : BitVec 32 := 1#32
  let v93 : BitVec 32 := Scalar.muli v14 c1_i32_88
  let v94 : BitVec 32 := Scalar.addi c0_i32_89 v93
  v94.toNat
def k0_off2 (d0 : Dev nD) (c0_i32_95 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c24_i32 : BitVec 32 := 24#32
  let v103 : BitVec 32 := Scalar.addi v2 c24_i32
  let c1_i32_94 : BitVec 32 := 1#32
  let v104 : BitVec 32 := Scalar.subi v103 c1_i32_94
  let v105 : BitVec 32 := Scalar.subi v104 c0_i32_95
  let c8_i32_96 : BitVec 32 := 8#32
  let c0_i32_97 : BitVec 32 := 0#32
  let v106 : BitVec 1 := Scalar.cmpi .eq c8_i32_96 c0_i32_97
  let c1_i32_98 : BitVec 32 := 1#32
  let v107 : BitVec 32 := Scalar.select v106 c1_i32_98 c8_i32_96
  let v108 : BitVec 32 := Scalar.remsi v105 v107
  let c0_i32_100 : BitVec 32 := 0#32
  let v110 : BitVec 1 := Scalar.cmpi .slt v108 c0_i32_100
  let c0_i32_101 : BitVec 32 := 0#32
  let v111 : BitVec 1 := Scalar.cmpi .slt v107 c0_i32_101
  let v112 : BitVec 1 := Scalar.xori v110 v111
  let c0_i32_99 : BitVec 32 := 0#32
  let v109 : BitVec 1 := Scalar.cmpi .ne v108 c0_i32_99
  let v113 : BitVec 1 := Scalar.andi v112 v109
  let v114 : BitVec 32 := Scalar.addi v108 v107
  let v115 : BitVec 32 := Scalar.select v113 v114 v108
  let c512_i32_102 : BitVec 32 := 512#32
  let v116 : BitVec 32 := Scalar.muli v115 c512_i32_102
  let v117 : Index := Scalar.indexCast v116
  let c0_103 : Index := 0#32
  ![v117.toNat, 0]
def k0_off3 (d0 : Dev nD) (c0_i32_108 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_107 : BitVec 32 := 1#32
  let v124 : BitVec 32 := Scalar.addi v2 c1_i32_107
  let v125 : BitVec 32 := Scalar.addi v124 c0_i32_108
  let c8_i32_109 : BitVec 32 := 8#32
  let c0_i32_110 : BitVec 32 := 0#32
  let v126 : BitVec 1 := Scalar.cmpi .eq c8_i32_109 c0_i32_110
  let c1_i32_111 : BitVec 32 := 1#32
  let v127 : BitVec 32 := Scalar.select v126 c1_i32_111 c8_i32_109
  let v128 : BitVec 32 := Scalar.remsi v125 v127
  let c0_i32_113 : BitVec 32 := 0#32
  let v130 : BitVec 1 := Scalar.cmpi .slt v128 c0_i32_113
  let c0_i32_114 : BitVec 32 := 0#32
  let v131 : BitVec 1 := Scalar.cmpi .slt v127 c0_i32_114
  let v132 : BitVec 1 := Scalar.xori v130 v131
  let c0_i32_112 : BitVec 32 := 0#32
  let v129 : BitVec 1 := Scalar.cmpi .ne v128 c0_i32_112
  let v133 : BitVec 1 := Scalar.andi v132 v129
  let v134 : BitVec 32 := Scalar.addi v128 v127
  let v135 : BitVec 32 := Scalar.select v133 v134 v128
  let c512_i32_115 : BitVec 32 := 512#32
  let v136 : BitVec 32 := Scalar.muli v135 c512_i32_115
  let v137 : Index := Scalar.indexCast v136
  let c0_116 : Index := 0#32
  ![v137.toNat, 0]
def k0_dev7 (d0 : Dev nD) : Nat :=
  let c0_i32_151 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_150 : BitVec 32 := 1#32
  let v160 : BitVec 32 := Scalar.muli v14 c1_i32_150
  let v161 : BitVec 32 := Scalar.addi c0_i32_151 v160
  v161.toNat
def k0_dev8 (d0 : Dev nD) : Nat :=
  let c0_i32_170 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_169 : BitVec 32 := 1#32
  let v171 : BitVec 32 := Scalar.muli v25 c1_i32_169
  let v172 : BitVec 32 := Scalar.addi c0_i32_170 v171
  v172.toNat
def k0_dev9 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_205 : BitVec 32 := 1#32
  let v197 : BitVec 32 := Scalar.muli v25 c1_i32_205
  let v198 : BitVec 32 := Scalar.addi c0_i32_206 v197
  v198.toNat
def k0_dev10 (d0 : Dev nD) : Nat :=
  let c0_i32_226 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_225 : BitVec 32 := 1#32
  let v208 : BitVec 32 := Scalar.muli v14 c1_i32_225
  let v209 : BitVec 32 := Scalar.addi c0_i32_226 v208
  v209.toNat
def k0_dev11 (d0 : Dev nD) : Nat :=
  let c0_i32_262 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_261 : BitVec 32 := 1#32
  let v234 : BitVec 32 := Scalar.muli v14 c1_i32_261
  let v235 : BitVec 32 := Scalar.addi c0_i32_262 v234
  v235.toNat
def k0_dev12 (d0 : Dev nD) : Nat :=
  let c0_i32_282 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_281 : BitVec 32 := 1#32
  let v245 : BitVec 32 := Scalar.muli v25 c1_i32_281
  let v246 : BitVec 32 := Scalar.addi c0_i32_282 v245
  v246.toNat
def k0_dev13 (d0 : Dev nD) : Nat :=
  let c0_i32_318 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_317 : BitVec 32 := 1#32
  let v271 : BitVec 32 := Scalar.muli v25 c1_i32_317
  let v272 : BitVec 32 := Scalar.addi c0_i32_318 v271
  v272.toNat
def k0_dev14 (d0 : Dev nD) : Nat :=
  let c0_i32_338 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_337 : BitVec 32 := 1#32
  let v282 : BitVec 32 := Scalar.muli v14 c1_i32_337
  let v283 : BitVec 32 := Scalar.addi c0_i32_338 v282
  v283.toNat
def k0_dev15 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_400 : BitVec 32 := 1#32
  let v349 : BitVec 32 := Scalar.muli v14 c1_i32_400
  let v350 : BitVec 32 := Scalar.addi c0_i32_401 v349
  v350.toNat
def k0_dev16 (d0 : Dev nD) : Nat :=
  let c0_i32_421 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_420 : BitVec 32 := 1#32
  let v360 : BitVec 32 := Scalar.muli v25 c1_i32_420
  let v361 : BitVec 32 := Scalar.addi c0_i32_421 v360
  v361.toNat
def k0_dev17 (d0 : Dev nD) : Nat :=
  let c0_i32_457 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_456 : BitVec 32 := 1#32
  let v386 : BitVec 32 := Scalar.muli v25 c1_i32_456
  let v387 : BitVec 32 := Scalar.addi c0_i32_457 v386
  v387.toNat
def k0_dev18 (d0 : Dev nD) : Nat :=
  let c0_i32_477 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_476 : BitVec 32 := 1#32
  let v397 : BitVec 32 := Scalar.muli v14 c1_i32_476
  let v398 : BitVec 32 := Scalar.addi c0_i32_477 v397
  v398.toNat
def k0_dev19 (d0 : Dev nD) : Nat :=
  let c0_i32_513 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_512 : BitVec 32 := 1#32
  let v423 : BitVec 32 := Scalar.muli v14 c1_i32_512
  let v424 : BitVec 32 := Scalar.addi c0_i32_513 v423
  v424.toNat
def k0_dev20 (d0 : Dev nD) : Nat :=
  let c0_i32_533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_532 : BitVec 32 := 1#32
  let v434 : BitVec 32 := Scalar.muli v25 c1_i32_532
  let v435 : BitVec 32 := Scalar.addi c0_i32_533 v434
  v435.toNat
def k0_dev21 (d0 : Dev nD) : Nat :=
  let c0_i32_569 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_568 : BitVec 32 := 1#32
  let v460 : BitVec 32 := Scalar.muli v25 c1_i32_568
  let v461 : BitVec 32 := Scalar.addi c0_i32_569 v460
  v461.toNat
def k0_dev22 (d0 : Dev nD) : Nat :=
  let c0_i32_589 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_588 : BitVec 32 := 1#32
  let v471 : BitVec 32 := Scalar.muli v14 c1_i32_588
  let v472 : BitVec 32 := Scalar.addi c0_i32_589 v471
  v472.toNat
def k0_dev23 (d0 : Dev nD) : Nat :=
  let c0_i32_652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_651 : BitVec 32 := 1#32
  let v538 : BitVec 32 := Scalar.muli v14 c1_i32_651
  let v539 : BitVec 32 := Scalar.addi c0_i32_652 v538
  v539.toNat
def k0_dev24 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_671 : BitVec 32 := 1#32
  let v549 : BitVec 32 := Scalar.muli v25 c1_i32_671
  let v550 : BitVec 32 := Scalar.addi c0_i32_672 v549
  v550.toNat
def k0_dev25 (d0 : Dev nD) : Nat :=
  let c0_i32_708 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_707 : BitVec 32 := 1#32
  let v575 : BitVec 32 := Scalar.muli v25 c1_i32_707
  let v576 : BitVec 32 := Scalar.addi c0_i32_708 v575
  v576.toNat
def k0_dev26 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_727 : BitVec 32 := 1#32
  let v586 : BitVec 32 := Scalar.muli v14 c1_i32_727
  let v587 : BitVec 32 := Scalar.addi c0_i32_728 v586
  v587.toNat
def k0_dev27 (d0 : Dev nD) : Nat :=
  let c0_i32_764 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_763 : BitVec 32 := 1#32
  let v612 : BitVec 32 := Scalar.muli v14 c1_i32_763
  let v613 : BitVec 32 := Scalar.addi c0_i32_764 v612
  v613.toNat
def k0_dev28 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_783 : BitVec 32 := 1#32
  let v623 : BitVec 32 := Scalar.muli v25 c1_i32_783
  let v624 : BitVec 32 := Scalar.addi c0_i32_784 v623
  v624.toNat
def k0_dev29 (d0 : Dev nD) : Nat :=
  let c0_i32_820 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_819 : BitVec 32 := 1#32
  let v649 : BitVec 32 := Scalar.muli v25 c1_i32_819
  let v650 : BitVec 32 := Scalar.addi c0_i32_820 v649
  v650.toNat
def k0_dev30 (d0 : Dev nD) : Nat :=
  let c0_i32_840 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_839 : BitVec 32 := 1#32
  let v660 : BitVec 32 := Scalar.muli v14 c1_i32_839
  let v661 : BitVec 32 := Scalar.addi c0_i32_840 v660
  v661.toNat
def k0_dev31 (d0 : Dev nD) : Nat :=
  let c0_i32_902 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_901 : BitVec 32 := 1#32
  let v727 : BitVec 32 := Scalar.muli v14 c1_i32_901
  let v728 : BitVec 32 := Scalar.addi c0_i32_902 v727
  v728.toNat
def k0_dev32 (d0 : Dev nD) : Nat :=
  let c0_i32_922 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_921 : BitVec 32 := 1#32
  let v738 : BitVec 32 := Scalar.muli v25 c1_i32_921
  let v739 : BitVec 32 := Scalar.addi c0_i32_922 v738
  v739.toNat
def k0_dev33 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_957 : BitVec 32 := 1#32
  let v764 : BitVec 32 := Scalar.muli v25 c1_i32_957
  let v765 : BitVec 32 := Scalar.addi c0_i32_958 v764
  v765.toNat
def k0_dev34 (d0 : Dev nD) : Nat :=
  let c0_i32_978 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_977 : BitVec 32 := 1#32
  let v775 : BitVec 32 := Scalar.muli v14 c1_i32_977
  let v776 : BitVec 32 := Scalar.addi c0_i32_978 v775
  v776.toNat
def k0_dev35 (d0 : Dev nD) : Nat :=
  let c0_i32_1014 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1013 : BitVec 32 := 1#32
  let v801 : BitVec 32 := Scalar.muli v14 c1_i32_1013
  let v802 : BitVec 32 := Scalar.addi c0_i32_1014 v801
  v802.toNat
def k0_dev36 (d0 : Dev nD) : Nat :=
  let c0_i32_1034 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1033 : BitVec 32 := 1#32
  let v812 : BitVec 32 := Scalar.muli v25 c1_i32_1033
  let v813 : BitVec 32 := Scalar.addi c0_i32_1034 v812
  v813.toNat
def k0_dev37 (d0 : Dev nD) : Nat :=
  let c0_i32_1070 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1069 : BitVec 32 := 1#32
  let v838 : BitVec 32 := Scalar.muli v25 c1_i32_1069
  let v839 : BitVec 32 := Scalar.addi c0_i32_1070 v838
  v839.toNat
def k0_dev38 (d0 : Dev nD) : Nat :=
  let c0_i32_1090 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1089 : BitVec 32 := 1#32
  let v849 : BitVec 32 := Scalar.muli v14 c1_i32_1089
  let v850 : BitVec 32 := Scalar.addi c0_i32_1090 v849
  v850.toNat
def k0_dev39 (d0 : Dev nD) : Nat :=
  let c0_i32_1152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1151 : BitVec 32 := 1#32
  let v916 : BitVec 32 := Scalar.muli v14 c1_i32_1151
  let v917 : BitVec 32 := Scalar.addi c0_i32_1152 v916
  v917.toNat
def k0_dev40 (d0 : Dev nD) : Nat :=
  let c0_i32_1172 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1171 : BitVec 32 := 1#32
  let v927 : BitVec 32 := Scalar.muli v25 c1_i32_1171
  let v928 : BitVec 32 := Scalar.addi c0_i32_1172 v927
  v928.toNat
def k0_dev41 (d0 : Dev nD) : Nat :=
  let c0_i32_1208 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1207 : BitVec 32 := 1#32
  let v953 : BitVec 32 := Scalar.muli v25 c1_i32_1207
  let v954 : BitVec 32 := Scalar.addi c0_i32_1208 v953
  v954.toNat
def k0_dev42 (d0 : Dev nD) : Nat :=
  let c0_i32_1228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1227 : BitVec 32 := 1#32
  let v964 : BitVec 32 := Scalar.muli v14 c1_i32_1227
  let v965 : BitVec 32 := Scalar.addi c0_i32_1228 v964
  v965.toNat
def k0_dev43 (d0 : Dev nD) : Nat :=
  let c0_i32_1264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1263 : BitVec 32 := 1#32
  let v990 : BitVec 32 := Scalar.muli v14 c1_i32_1263
  let v991 : BitVec 32 := Scalar.addi c0_i32_1264 v990
  v991.toNat
def k0_dev44 (d0 : Dev nD) : Nat :=
  let c0_i32_1284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1283 : BitVec 32 := 1#32
  let v1001 : BitVec 32 := Scalar.muli v25 c1_i32_1283
  let v1002 : BitVec 32 := Scalar.addi c0_i32_1284 v1001
  v1002.toNat
def k0_dev45 (d0 : Dev nD) : Nat :=
  let c0_i32_1320 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1319 : BitVec 32 := 1#32
  let v1027 : BitVec 32 := Scalar.muli v25 c1_i32_1319
  let v1028 : BitVec 32 := Scalar.addi c0_i32_1320 v1027
  v1028.toNat
def k0_dev46 (d0 : Dev nD) : Nat :=
  let c0_i32_1340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1339 : BitVec 32 := 1#32
  let v1038 : BitVec 32 := Scalar.muli v14 c1_i32_1339
  let v1039 : BitVec 32 := Scalar.addi c0_i32_1340 v1038
  v1039.toNat
def k0_dev47 (d0 : Dev nD) : Nat :=
  let c0_i32_1402 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1401 : BitVec 32 := 1#32
  let v1105 : BitVec 32 := Scalar.muli v14 c1_i32_1401
  let v1106 : BitVec 32 := Scalar.addi c0_i32_1402 v1105
  v1106.toNat
def k0_dev48 (d0 : Dev nD) : Nat :=
  let c0_i32_1422 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1421 : BitVec 32 := 1#32
  let v1116 : BitVec 32 := Scalar.muli v25 c1_i32_1421
  let v1117 : BitVec 32 := Scalar.addi c0_i32_1422 v1116
  v1117.toNat
def k0_dev49 (d0 : Dev nD) : Nat :=
  let c0_i32_1458 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1457 : BitVec 32 := 1#32
  let v1142 : BitVec 32 := Scalar.muli v25 c1_i32_1457
  let v1143 : BitVec 32 := Scalar.addi c0_i32_1458 v1142
  v1143.toNat
def k0_dev50 (d0 : Dev nD) : Nat :=
  let c0_i32_1478 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1477 : BitVec 32 := 1#32
  let v1153 : BitVec 32 := Scalar.muli v14 c1_i32_1477
  let v1154 : BitVec 32 := Scalar.addi c0_i32_1478 v1153
  v1154.toNat
def k0_dev51 (d0 : Dev nD) : Nat :=
  let c0_i32_1514 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1513 : BitVec 32 := 1#32
  let v1179 : BitVec 32 := Scalar.muli v14 c1_i32_1513
  let v1180 : BitVec 32 := Scalar.addi c0_i32_1514 v1179
  v1180.toNat
def k0_dev52 (d0 : Dev nD) : Nat :=
  let c0_i32_1534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1533 : BitVec 32 := 1#32
  let v1190 : BitVec 32 := Scalar.muli v25 c1_i32_1533
  let v1191 : BitVec 32 := Scalar.addi c0_i32_1534 v1190
  v1191.toNat
def k0_dev53 (d0 : Dev nD) : Nat :=
  let c0_i32_1570 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1569 : BitVec 32 := 1#32
  let v1216 : BitVec 32 := Scalar.muli v25 c1_i32_1569
  let v1217 : BitVec 32 := Scalar.addi c0_i32_1570 v1216
  v1217.toNat
def k0_dev54 (d0 : Dev nD) : Nat :=
  let c0_i32_1590 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1589 : BitVec 32 := 1#32
  let v1227 : BitVec 32 := Scalar.muli v14 c1_i32_1589
  let v1228 : BitVec 32 := Scalar.addi c0_i32_1590 v1227
  v1228.toNat
def k0_dev55 (d0 : Dev nD) : Nat :=
  let c0_i32_1652 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1651 : BitVec 32 := 1#32
  let v1294 : BitVec 32 := Scalar.muli v14 c1_i32_1651
  let v1295 : BitVec 32 := Scalar.addi c0_i32_1652 v1294
  v1295.toNat
def k0_off4 (d0 : Dev nD) (c0_i32_1667 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1659 : BitVec 32 := 1#32
  let v1303 : BitVec 32 := Scalar.addi v2 c1_i32_1659
  let c8_i32_1660 : BitVec 32 := 8#32
  let c0_i32_1661 : BitVec 32 := 0#32
  let v1304 : BitVec 1 := Scalar.cmpi .eq c8_i32_1660 c0_i32_1661
  let c1_i32_1662 : BitVec 32 := 1#32
  let v1305 : BitVec 32 := Scalar.select v1304 c1_i32_1662 c8_i32_1660
  let v1306 : BitVec 32 := Scalar.remsi v1303 v1305
  let c0_i32_1664 : BitVec 32 := 0#32
  let v1308 : BitVec 1 := Scalar.cmpi .slt v1306 c0_i32_1664
  let c0_i32_1665 : BitVec 32 := 0#32
  let v1309 : BitVec 1 := Scalar.cmpi .slt v1305 c0_i32_1665
  let v1310 : BitVec 1 := Scalar.xori v1308 v1309
  let c0_i32_1663 : BitVec 32 := 0#32
  let v1307 : BitVec 1 := Scalar.cmpi .ne v1306 c0_i32_1663
  let v1311 : BitVec 1 := Scalar.andi v1310 v1307
  let v1312 : BitVec 32 := Scalar.addi v1306 v1305
  let v1313 : BitVec 32 := Scalar.select v1311 v1312 v1306
  let c512_i32_1666 : BitVec 32 := 512#32
  let v1314 : BitVec 32 := Scalar.muli v1313 c512_i32_1666
  let v1315 : BitVec 32 := Scalar.addi v1314 c0_i32_1667
  let c0_i32_1672 : BitVec 32 := 0#32
  ![v1315.toNat, 0]
def k0_dev56 (d0 : Dev nD) : Nat :=
  let c0_i32_1688 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1687 : BitVec 32 := 1#32
  let v1323 : BitVec 32 := Scalar.muli v25 c1_i32_1687
  let v1324 : BitVec 32 := Scalar.addi c0_i32_1688 v1323
  v1324.toNat
def k0_dev57 (d0 : Dev nD) : Nat :=
  let c0_i32_1724 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1723 : BitVec 32 := 1#32
  let v1349 : BitVec 32 := Scalar.muli v25 c1_i32_1723
  let v1350 : BitVec 32 := Scalar.addi c0_i32_1724 v1349
  v1350.toNat
def k0_off5 (d0 : Dev nD) (c0_i32_1740 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_1731 : BitVec 32 := 8#32
  let v1358 : BitVec 32 := Scalar.addi v2 c8_i32_1731
  let c1_i32_1732 : BitVec 32 := 1#32
  let v1359 : BitVec 32 := Scalar.subi v1358 c1_i32_1732
  let c8_i32_1733 : BitVec 32 := 8#32
  let c0_i32_1734 : BitVec 32 := 0#32
  let v1360 : BitVec 1 := Scalar.cmpi .eq c8_i32_1733 c0_i32_1734
  let c1_i32_1735 : BitVec 32 := 1#32
  let v1361 : BitVec 32 := Scalar.select v1360 c1_i32_1735 c8_i32_1733
  let v1362 : BitVec 32 := Scalar.remsi v1359 v1361
  let c0_i32_1737 : BitVec 32 := 0#32
  let v1364 : BitVec 1 := Scalar.cmpi .slt v1362 c0_i32_1737
  let c0_i32_1738 : BitVec 32 := 0#32
  let v1365 : BitVec 1 := Scalar.cmpi .slt v1361 c0_i32_1738
  let v1366 : BitVec 1 := Scalar.xori v1364 v1365
  let c0_i32_1736 : BitVec 32 := 0#32
  let v1363 : BitVec 1 := Scalar.cmpi .ne v1362 c0_i32_1736
  let v1367 : BitVec 1 := Scalar.andi v1366 v1363
  let v1368 : BitVec 32 := Scalar.addi v1362 v1361
  let v1369 : BitVec 32 := Scalar.select v1367 v1368 v1362
  let c512_i32_1739 : BitVec 32 := 512#32
  let v1370 : BitVec 32 := Scalar.muli v1369 c512_i32_1739
  let v1371 : BitVec 32 := Scalar.addi v1370 c0_i32_1740
  let c4096_i32 : BitVec 32 := 4096#32
  ![v1371.toNat, 4096]
def k0_dev58 (d0 : Dev nD) : Nat :=
  let c0_i32_1760 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1759 : BitVec 32 := 1#32
  let v1379 : BitVec 32 := Scalar.muli v14 c1_i32_1759
  let v1380 : BitVec 32 := Scalar.addi c0_i32_1760 v1379
  v1380.toNat
def k0_dev59 (d0 : Dev nD) : Nat :=
  let c0_i32_1796 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1795 : BitVec 32 := 1#32
  let v1405 : BitVec 32 := Scalar.muli v14 c1_i32_1795
  let v1406 : BitVec 32 := Scalar.addi c0_i32_1796 v1405
  v1406.toNat
def k0_dev60 (d0 : Dev nD) : Nat :=
  let c0_i32_1831 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1830 : BitVec 32 := 1#32
  let v1434 : BitVec 32 := Scalar.muli v25 c1_i32_1830
  let v1435 : BitVec 32 := Scalar.addi c0_i32_1831 v1434
  v1435.toNat
def k0_dev61 (d0 : Dev nD) : Nat :=
  let c0_i32_1867 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1866 : BitVec 32 := 1#32
  let v1460 : BitVec 32 := Scalar.muli v25 c1_i32_1866
  let v1461 : BitVec 32 := Scalar.addi c0_i32_1867 v1460
  v1461.toNat
def k0_dev62 (d0 : Dev nD) : Nat :=
  let c0_i32_1904 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1903 : BitVec 32 := 1#32
  let v1490 : BitVec 32 := Scalar.muli v14 c1_i32_1903
  let v1491 : BitVec 32 := Scalar.addi c0_i32_1904 v1490
  v1491.toNat
def k0_dev63 (d0 : Dev nD) : Nat :=
  let c0_i32_1956 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_1955 : BitVec 32 := 1#32
  let v1534 : BitVec 32 := Scalar.muli v14 c1_i32_1955
  let v1535 : BitVec 32 := Scalar.addi c0_i32_1956 v1534
  v1535.toNat
def k0_off6 (d0 : Dev nD) (c0_i32_1957 : BitVec 32) (c0_i32_1965 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c16_i32 : BitVec 32 := 16#32
  let v1536 : BitVec 32 := Scalar.addi v2 c16_i32
  let v1537 : BitVec 32 := Scalar.subi v1536 c0_i32_1957
  let c8_i32_1958 : BitVec 32 := 8#32
  let c0_i32_1959 : BitVec 32 := 0#32
  let v1538 : BitVec 1 := Scalar.cmpi .eq c8_i32_1958 c0_i32_1959
  let c1_i32_1960 : BitVec 32 := 1#32
  let v1539 : BitVec 32 := Scalar.select v1538 c1_i32_1960 c8_i32_1958
  let v1540 : BitVec 32 := Scalar.remsi v1537 v1539
  let c0_i32_1962 : BitVec 32 := 0#32
  let v1542 : BitVec 1 := Scalar.cmpi .slt v1540 c0_i32_1962
  let c0_i32_1963 : BitVec 32 := 0#32
  let v1543 : BitVec 1 := Scalar.cmpi .slt v1539 c0_i32_1963
  let v1544 : BitVec 1 := Scalar.xori v1542 v1543
  let c0_i32_1961 : BitVec 32 := 0#32
  let v1541 : BitVec 1 := Scalar.cmpi .ne v1540 c0_i32_1961
  let v1545 : BitVec 1 := Scalar.andi v1544 v1541
  let v1546 : BitVec 32 := Scalar.addi v1540 v1539
  let v1547 : BitVec 32 := Scalar.select v1545 v1546 v1540
  let c512_i32_1964 : BitVec 32 := 512#32
  let v1548 : BitVec 32 := Scalar.muli v1547 c512_i32_1964
  let v1549 : BitVec 32 := Scalar.addi v1548 c0_i32_1965
  let c0_i32_1970 : BitVec 32 := 0#32
  ![v1549.toNat, 0]
def k0_dev64 (d0 : Dev nD) : Nat :=
  let c0_i32_1986 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_1985 : BitVec 32 := 1#32
  let v1557 : BitVec 32 := Scalar.muli v25 c1_i32_1985
  let v1558 : BitVec 32 := Scalar.addi c0_i32_1986 v1557
  v1558.toNat
def k0_dev65 (d0 : Dev nD) : Nat :=
  let c0_i32_2039 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2038 : BitVec 32 := 1#32
  let v1602 : BitVec 32 := Scalar.muli v25 c1_i32_2038
  let v1603 : BitVec 32 := Scalar.addi c0_i32_2039 v1602
  v1603.toNat
def k0_off7 (d0 : Dev nD) (c0_i32_2040 : BitVec 32) (c0_i32_2048 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v1604 : BitVec 32 := Scalar.addi v2 c0_i32_2040
  let c8_i32_2041 : BitVec 32 := 8#32
  let c0_i32_2042 : BitVec 32 := 0#32
  let v1605 : BitVec 1 := Scalar.cmpi .eq c8_i32_2041 c0_i32_2042
  let c1_i32_2043 : BitVec 32 := 1#32
  let v1606 : BitVec 32 := Scalar.select v1605 c1_i32_2043 c8_i32_2041
  let v1607 : BitVec 32 := Scalar.remsi v1604 v1606
  let c0_i32_2045 : BitVec 32 := 0#32
  let v1609 : BitVec 1 := Scalar.cmpi .slt v1607 c0_i32_2045
  let c0_i32_2046 : BitVec 32 := 0#32
  let v1610 : BitVec 1 := Scalar.cmpi .slt v1606 c0_i32_2046
  let v1611 : BitVec 1 := Scalar.xori v1609 v1610
  let c0_i32_2044 : BitVec 32 := 0#32
  let v1608 : BitVec 1 := Scalar.cmpi .ne v1607 c0_i32_2044
  let v1612 : BitVec 1 := Scalar.andi v1611 v1608
  let v1613 : BitVec 32 := Scalar.addi v1607 v1606
  let v1614 : BitVec 32 := Scalar.select v1612 v1613 v1607
  let c512_i32_2047 : BitVec 32 := 512#32
  let v1615 : BitVec 32 := Scalar.muli v1614 c512_i32_2047
  let v1616 : BitVec 32 := Scalar.addi v1615 c0_i32_2048
  let c4096_i32_2053 : BitVec 32 := 4096#32
  ![v1616.toNat, 4096]
def k0_dev66 (d0 : Dev nD) : Nat :=
  let c0_i32_2069 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2068 : BitVec 32 := 1#32
  let v1624 : BitVec 32 := Scalar.muli v14 c1_i32_2068
  let v1625 : BitVec 32 := Scalar.addi c0_i32_2069 v1624
  v1625.toNat
def k0_dev67 (d0 : Dev nD) : Nat :=
  let c0_i32_2121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2120 : BitVec 32 := 1#32
  let v1668 : BitVec 32 := Scalar.muli v14 c1_i32_2120
  let v1669 : BitVec 32 := Scalar.addi c0_i32_2121 v1668
  v1669.toNat
def k0_dev68 (d0 : Dev nD) : Nat :=
  let c0_i32_2152 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2151 : BitVec 32 := 1#32
  let v1691 : BitVec 32 := Scalar.muli v25 c1_i32_2151
  let v1692 : BitVec 32 := Scalar.addi c0_i32_2152 v1691
  v1692.toNat
def k0_dev69 (d0 : Dev nD) : Nat :=
  let c0_i32_2205 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2204 : BitVec 32 := 1#32
  let v1736 : BitVec 32 := Scalar.muli v25 c1_i32_2204
  let v1737 : BitVec 32 := Scalar.addi c0_i32_2205 v1736
  v1737.toNat
def k0_dev70 (d0 : Dev nD) : Nat :=
  let c0_i32_2235 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2234 : BitVec 32 := 1#32
  let v1758 : BitVec 32 := Scalar.muli v14 c1_i32_2234
  let v1759 : BitVec 32 := Scalar.addi c0_i32_2235 v1758
  v1759.toNat
def k0_dev71 (d0 : Dev nD) : Nat :=
  let c0_i32_2288 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2287 : BitVec 32 := 1#32
  let v1803 : BitVec 32 := Scalar.muli v14 c1_i32_2287
  let v1804 : BitVec 32 := Scalar.addi c0_i32_2288 v1803
  v1804.toNat
def k0_dev72 (d0 : Dev nD) : Nat :=
  let c0_i32_2319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2318 : BitVec 32 := 1#32
  let v1826 : BitVec 32 := Scalar.muli v25 c1_i32_2318
  let v1827 : BitVec 32 := Scalar.addi c0_i32_2319 v1826
  v1827.toNat
def k0_dev73 (d0 : Dev nD) : Nat :=
  let c0_i32_2371 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2370 : BitVec 32 := 1#32
  let v1870 : BitVec 32 := Scalar.muli v25 c1_i32_2370
  let v1871 : BitVec 32 := Scalar.addi c0_i32_2371 v1870
  v1871.toNat
def k0_dev74 (d0 : Dev nD) : Nat :=
  let c0_i32_2401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2400 : BitVec 32 := 1#32
  let v1892 : BitVec 32 := Scalar.muli v14 c1_i32_2400
  let v1893 : BitVec 32 := Scalar.addi c0_i32_2401 v1892
  v1893.toNat
def k0_dev75 (d0 : Dev nD) : Nat :=
  let c0_i32_2454 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2453 : BitVec 32 := 1#32
  let v1937 : BitVec 32 := Scalar.muli v14 c1_i32_2453
  let v1938 : BitVec 32 := Scalar.addi c0_i32_2454 v1937
  v1938.toNat
def k0_dev76 (d0 : Dev nD) : Nat :=
  let c0_i32_2485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2484 : BitVec 32 := 1#32
  let v1960 : BitVec 32 := Scalar.muli v25 c1_i32_2484
  let v1961 : BitVec 32 := Scalar.addi c0_i32_2485 v1960
  v1961.toNat
def k0_dev77 (d0 : Dev nD) : Nat :=
  let c0_i32_2537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2536 : BitVec 32 := 1#32
  let v2004 : BitVec 32 := Scalar.muli v25 c1_i32_2536
  let v2005 : BitVec 32 := Scalar.addi c0_i32_2537 v2004
  v2005.toNat
def k0_dev78 (d0 : Dev nD) : Nat :=
  let c0_i32_2567 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2566 : BitVec 32 := 1#32
  let v2026 : BitVec 32 := Scalar.muli v14 c1_i32_2566
  let v2027 : BitVec 32 := Scalar.addi c0_i32_2567 v2026
  v2027.toNat
def k0_dev79 (d0 : Dev nD) : Nat :=
  let c0_i32_2620 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2619 : BitVec 32 := 1#32
  let v2071 : BitVec 32 := Scalar.muli v14 c1_i32_2619
  let v2072 : BitVec 32 := Scalar.addi c0_i32_2620 v2071
  v2072.toNat
def k0_dev80 (d0 : Dev nD) : Nat :=
  let c0_i32_2651 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2650 : BitVec 32 := 1#32
  let v2094 : BitVec 32 := Scalar.muli v25 c1_i32_2650
  let v2095 : BitVec 32 := Scalar.addi c0_i32_2651 v2094
  v2095.toNat
def k0_dev81 (d0 : Dev nD) : Nat :=
  let c0_i32_2703 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2702 : BitVec 32 := 1#32
  let v2138 : BitVec 32 := Scalar.muli v25 c1_i32_2702
  let v2139 : BitVec 32 := Scalar.addi c0_i32_2703 v2138
  v2139.toNat
def k0_dev82 (d0 : Dev nD) : Nat :=
  let c0_i32_2733 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2732 : BitVec 32 := 1#32
  let v2160 : BitVec 32 := Scalar.muli v14 c1_i32_2732
  let v2161 : BitVec 32 := Scalar.addi c0_i32_2733 v2160
  v2161.toNat
def k0_dev83 (d0 : Dev nD) : Nat :=
  let c0_i32_2786 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2785 : BitVec 32 := 1#32
  let v2205 : BitVec 32 := Scalar.muli v14 c1_i32_2785
  let v2206 : BitVec 32 := Scalar.addi c0_i32_2786 v2205
  v2206.toNat
def k0_dev84 (d0 : Dev nD) : Nat :=
  let c0_i32_2817 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2816 : BitVec 32 := 1#32
  let v2228 : BitVec 32 := Scalar.muli v25 c1_i32_2816
  let v2229 : BitVec 32 := Scalar.addi c0_i32_2817 v2228
  v2229.toNat
def k0_dev85 (d0 : Dev nD) : Nat :=
  let c0_i32_2869 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2868 : BitVec 32 := 1#32
  let v2272 : BitVec 32 := Scalar.muli v25 c1_i32_2868
  let v2273 : BitVec 32 := Scalar.addi c0_i32_2869 v2272
  v2273.toNat
def k0_dev86 (d0 : Dev nD) : Nat :=
  let c0_i32_2899 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2898 : BitVec 32 := 1#32
  let v2294 : BitVec 32 := Scalar.muli v14 c1_i32_2898
  let v2295 : BitVec 32 := Scalar.addi c0_i32_2899 v2294
  v2295.toNat
def k0_dev87 (d0 : Dev nD) : Nat :=
  let c0_i32_2952 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_2951 : BitVec 32 := 1#32
  let v2339 : BitVec 32 := Scalar.muli v14 c1_i32_2951
  let v2340 : BitVec 32 := Scalar.addi c0_i32_2952 v2339
  v2340.toNat
def k0_dev88 (d0 : Dev nD) : Nat :=
  let c0_i32_2983 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_2982 : BitVec 32 := 1#32
  let v2362 : BitVec 32 := Scalar.muli v25 c1_i32_2982
  let v2363 : BitVec 32 := Scalar.addi c0_i32_2983 v2362
  v2363.toNat
def k0_dev89 (d0 : Dev nD) : Nat :=
  let c0_i32_3035 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3034 : BitVec 32 := 1#32
  let v2406 : BitVec 32 := Scalar.muli v25 c1_i32_3034
  let v2407 : BitVec 32 := Scalar.addi c0_i32_3035 v2406
  v2407.toNat
def k0_dev90 (d0 : Dev nD) : Nat :=
  let c0_i32_3065 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3064 : BitVec 32 := 1#32
  let v2428 : BitVec 32 := Scalar.muli v14 c1_i32_3064
  let v2429 : BitVec 32 := Scalar.addi c0_i32_3065 v2428
  v2429.toNat
def k0_dev91 (d0 : Dev nD) : Nat :=
  let c0_i32_3118 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3117 : BitVec 32 := 1#32
  let v2473 : BitVec 32 := Scalar.muli v14 c1_i32_3117
  let v2474 : BitVec 32 := Scalar.addi c0_i32_3118 v2473
  v2474.toNat
def k0_dev92 (d0 : Dev nD) : Nat :=
  let c0_i32_3149 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3148 : BitVec 32 := 1#32
  let v2496 : BitVec 32 := Scalar.muli v25 c1_i32_3148
  let v2497 : BitVec 32 := Scalar.addi c0_i32_3149 v2496
  v2497.toNat
def k0_dev93 (d0 : Dev nD) : Nat :=
  let c0_i32_3201 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3200 : BitVec 32 := 1#32
  let v2540 : BitVec 32 := Scalar.muli v25 c1_i32_3200
  let v2541 : BitVec 32 := Scalar.addi c0_i32_3201 v2540
  v2541.toNat
def k0_dev94 (d0 : Dev nD) : Nat :=
  let c0_i32_3231 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3230 : BitVec 32 := 1#32
  let v2562 : BitVec 32 := Scalar.muli v14 c1_i32_3230
  let v2563 : BitVec 32 := Scalar.addi c0_i32_3231 v2562
  v2563.toNat
def k0_dev95 (d0 : Dev nD) : Nat :=
  let c0_i32_3284 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3283 : BitVec 32 := 1#32
  let v2607 : BitVec 32 := Scalar.muli v14 c1_i32_3283
  let v2608 : BitVec 32 := Scalar.addi c0_i32_3284 v2607
  v2608.toNat
def k0_dev96 (d0 : Dev nD) : Nat :=
  let c0_i32_3315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3314 : BitVec 32 := 1#32
  let v2630 : BitVec 32 := Scalar.muli v25 c1_i32_3314
  let v2631 : BitVec 32 := Scalar.addi c0_i32_3315 v2630
  v2631.toNat
def k0_dev97 (d0 : Dev nD) : Nat :=
  let c0_i32_3367 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3366 : BitVec 32 := 1#32
  let v2674 : BitVec 32 := Scalar.muli v25 c1_i32_3366
  let v2675 : BitVec 32 := Scalar.addi c0_i32_3367 v2674
  v2675.toNat
def k0_dev98 (d0 : Dev nD) : Nat :=
  let c0_i32_3397 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3396 : BitVec 32 := 1#32
  let v2696 : BitVec 32 := Scalar.muli v14 c1_i32_3396
  let v2697 : BitVec 32 := Scalar.addi c0_i32_3397 v2696
  v2697.toNat
def k0_dev99 (d0 : Dev nD) : Nat :=
  let c0_i32_3450 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3449 : BitVec 32 := 1#32
  let v2741 : BitVec 32 := Scalar.muli v14 c1_i32_3449
  let v2742 : BitVec 32 := Scalar.addi c0_i32_3450 v2741
  v2742.toNat
def k0_dev100 (d0 : Dev nD) : Nat :=
  let c0_i32_3481 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3480 : BitVec 32 := 1#32
  let v2764 : BitVec 32 := Scalar.muli v25 c1_i32_3480
  let v2765 : BitVec 32 := Scalar.addi c0_i32_3481 v2764
  v2765.toNat
def k0_dev101 (d0 : Dev nD) : Nat :=
  let c0_i32_3533 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3532 : BitVec 32 := 1#32
  let v2808 : BitVec 32 := Scalar.muli v25 c1_i32_3532
  let v2809 : BitVec 32 := Scalar.addi c0_i32_3533 v2808
  v2809.toNat
def k0_dev102 (d0 : Dev nD) : Nat :=
  let c0_i32_3563 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3562 : BitVec 32 := 1#32
  let v2830 : BitVec 32 := Scalar.muli v14 c1_i32_3562
  let v2831 : BitVec 32 := Scalar.addi c0_i32_3563 v2830
  v2831.toNat
def k0_dev103 (d0 : Dev nD) : Nat :=
  let c0_i32_3616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3615 : BitVec 32 := 1#32
  let v2875 : BitVec 32 := Scalar.muli v14 c1_i32_3615
  let v2876 : BitVec 32 := Scalar.addi c0_i32_3616 v2875
  v2876.toNat
def k0_dev104 (d0 : Dev nD) : Nat :=
  let c0_i32_3647 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3646 : BitVec 32 := 1#32
  let v2898 : BitVec 32 := Scalar.muli v25 c1_i32_3646
  let v2899 : BitVec 32 := Scalar.addi c0_i32_3647 v2898
  v2899.toNat
def k0_dev105 (d0 : Dev nD) : Nat :=
  let c0_i32_3699 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3698 : BitVec 32 := 1#32
  let v2942 : BitVec 32 := Scalar.muli v25 c1_i32_3698
  let v2943 : BitVec 32 := Scalar.addi c0_i32_3699 v2942
  v2943.toNat
def k0_dev106 (d0 : Dev nD) : Nat :=
  let c0_i32_3729 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3728 : BitVec 32 := 1#32
  let v2964 : BitVec 32 := Scalar.muli v14 c1_i32_3728
  let v2965 : BitVec 32 := Scalar.addi c0_i32_3729 v2964
  v2965.toNat
def k0_dev107 (d0 : Dev nD) : Nat :=
  let c0_i32_3782 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3781 : BitVec 32 := 1#32
  let v3009 : BitVec 32 := Scalar.muli v14 c1_i32_3781
  let v3010 : BitVec 32 := Scalar.addi c0_i32_3782 v3009
  v3010.toNat
def k0_dev108 (d0 : Dev nD) : Nat :=
  let c0_i32_3813 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3812 : BitVec 32 := 1#32
  let v3032 : BitVec 32 := Scalar.muli v25 c1_i32_3812
  let v3033 : BitVec 32 := Scalar.addi c0_i32_3813 v3032
  v3033.toNat
def k0_dev109 (d0 : Dev nD) : Nat :=
  let c0_i32_3865 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_7 : BitVec 32 := 1#32
  let v15 : BitVec 32 := Scalar.addi v2 c1_i32_7
  let c8_i32_8 : BitVec 32 := 8#32
  let c0_i32_9 : BitVec 32 := 0#32
  let v16 : BitVec 1 := Scalar.cmpi .eq c8_i32_8 c0_i32_9
  let c1_i32_10 : BitVec 32 := 1#32
  let v17 : BitVec 32 := Scalar.select v16 c1_i32_10 c8_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_3864 : BitVec 32 := 1#32
  let v3076 : BitVec 32 := Scalar.muli v25 c1_i32_3864
  let v3077 : BitVec 32 := Scalar.addi c0_i32_3865 v3076
  v3077.toNat
def k0_dev110 (d0 : Dev nD) : Nat :=
  let c0_i32_3895 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let c0_i32 : BitVec 32 := 0#32
  let v5 : BitVec 1 := Scalar.cmpi .eq c8_i32_2 c0_i32
  let c1_i32_3 : BitVec 32 := 1#32
  let v6 : BitVec 32 := Scalar.select v5 c1_i32_3 c8_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_3894 : BitVec 32 := 1#32
  let v3098 : BitVec 32 := Scalar.muli v14 c1_i32_3894
  let v3099 : BitVec 32 := Scalar.addi c0_i32_3895 v3098
  v3099.toNat
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩

abbrev nBuf : Space → Nat
  | .hbm => 6
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x8192, .bf16⟩
  | .hbm, ⟨2, _⟩ => ⟨S4096x4096, .f32⟩
  | .hbm, ⟨3, _⟩ => ⟨S4096x8192, .f32⟩
  | .hbm, ⟨4, _⟩ => ⟨S4096x8192, .f32⟩
  | .hbm, ⟨5, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proof.Rings.lean ====
module

public import proofs.«01_k».proof.Proof.Gen.KernelIdeal.Skeleton
public import Idealize.ShloMosaic.Lib.Tactic

/-!
# The kernel as four rings

The kernel's body is the same few operations for each of four rings (a direction and a row half)
and each of fourteen hops. This module writes those operations once, over the ring and the hop, and
shows that the printed body is the sequence of them.
-/

@[expose] public section

noncomputable section

namespace Cert.KernelIdeal.Rings

open Idealize.ShloMosaic Idealize.SL.Sem Cert.KernelIdeal.Gen

variable {F : FTy → Type} [FloatOps F]

/-- A program of one TensorCore. -/
abbrev TcProg (F : FTy → Type) [FloatOps F] (α : Type) : Type 1 := Prog (TpuEff nD τ sig (Elt F) Λ₀ .tc) α

/-- The slot a hop uses: even hops the first, odd hops the second. -/
def par (h : ℕ) : Fin 2 := ⟨h % 2, Nat.mod_lt h (by decide)⟩

/-- The two-slot buffer of a ring. -/
def comm : Fin 2 → Fin 2 → Memref sig .tc .vmem S2x256x4096 .bf16
  | 0, 0 => Memref.whole cc0_scratch0
  | 0, 1 => Memref.whole cc0_scratch1
  | 1, 0 => Memref.whole cc0_scratch2
  | 1, 1 => Memref.whole cc0_scratch3

theorem comm_whole : ∀ di li : Fin 2, (comm di li).IsWhole
  | 0, 0 => Memref.isWhole_whole _
  | 0, 1 => Memref.isWhole_whole _
  | 1, 0 => Memref.isWhole_whole _
  | 1, 1 => Memref.isWhole_whole _

theorem slot_inb (s : Fin 2) : ∀ a, (![s.val, 0, 0] : Fin 3 → Nat) a + S1x256x4096.size a ≤ S2x256x4096.size a := by
  revert s; decide

/-- The rows and columns of a slot, within the ring's buffer. -/
abbrev slotRect (s : Fin 2) : Rect S2x256x4096 := Rect.unit (s := S2x256x4096) ![s.val, 0, 0] S1x256x4096.size (slot_inb s)

theorem slot_words : ∀ s : Fin 2, (slotRect s).WholeWords (EltTy.packing .bf16)
  | 0 => wordsbf16_S2x256x4096_S1x256x4096_0_0_0
  | 1 => wordsbf16_S2x256x4096_S1x256x4096_1_0_0

theorem slot_packed : ∀ s : Fin 2, (slotRect s).PackedRows (EltTy.packing .bf16)
  | 0 => packedbf16_S2x256x4096_S1x256x4096_0_0_0
  | 1 => packedbf16_S2x256x4096_S1x256x4096_1_0_0

/-- One slot of a ring's buffer. -/
abbrev slot (di li s : Fin 2) : Memref sig .tc .vmem S256x4096 .bf16 :=
  ((comm di li).slice (slotRect s) (fun _ => rfl)).squeeze S256x4096 squeezes_S1x256x4096_S256x4096

theorem slot_wordExact (di li s : Fin 2) : (slot di li s).view.WordExact :=
  ((comm_whole di li).wordExact_slice rfl _ (slot_words s)).reshape _ _

theorem comm_plain : ∀ di li : Fin 2, (comm di li).view.ref.isScScratch = false
  | 0, 0 => rfl
  | 0, 1 => rfl
  | 1, 0 => rfl
  | 1, 1 => rfl

theorem slot_plain (di li s : Fin 2) : (slot di li s).view.ref.isScScratch = false := comm_plain di li

theorem cell_inb (di li s : Fin 2) : ∀ a, (![di.val, li.val, s.val] : Fin 3 → Nat) a + S1x1x1.size a ≤ S2x2x2.size a := by
  revert di li s; decide

theorem cell2_inb (di li : Fin 2) : ∀ a, (![di.val, li.val] : Fin 2 → Nat) a + S1x1.size a ≤ S2x2.size a := by
  revert di li; decide

/-- The cell of a ring's slot in an array of transfer semaphores. -/
abbrev cellOf (A : DmaSems sig S2x2x2) (di li s : Fin 2) : DmaSem sig :=
  ((A.slice (Rect.unit (s := S2x2x2) ![di.val, li.val, s.val] S1x1x1.size (cell_inb di li s))).squeeze S_ squeezes_S1x1x1_S_).sem

/-- The credit cell of a ring. -/
abbrev creditSem (di li : Fin 2) : Sem sig :=
  ((cc0_scratch6.slice (Rect.unit (s := S2x2) ![di.val, li.val] S1x1.size (cell2_inb di li))).squeeze S_ squeezes_S1x1_S_).sem

/-- The cells a ring's sends credit at home. -/
abbrev sendSem (di li s : Fin 2) : DmaSem sig := cellOf cc0_scratch4 di li s
/-- The cells a ring's sends credit at the neighbour. -/
abbrev recvSem (di li s : Fin 2) : DmaSem sig := cellOf cc0_scratch5 di li s
/-- The cells a ring's copies into the result credit. -/
abbrev copySem (di li s : Fin 2) : DmaSem sig := cellOf cc0_scratch7 di li s
/-- The barrier cell. -/
abbrev barSem : Sem sig := (SemArray.scalar (sig.barrier 0 rfl) : Sems sig S_).sem

/-- The left and the right neighbour, as the kernel computes them. -/
abbrev leftD (d : Dev nD) : Dev nD := ⟨k0_dev1 d, k0_dev1_lt d⟩
abbrev rightD (d : Dev nD) : Dev nD := ⟨k0_dev2 d, k0_dev2_lt d⟩

/-- The device a direction sends to, and the one it receives from. -/
def dnD : Fin 2 → Dev nD → Dev nD
  | 0, d => rightD d
  | 1, d => leftD d
def upD : Fin 2 → Dev nD → Dev nD
  | 0, d => leftD d
  | 1, d => rightD d

/-- The two operands as the kernel sees them, and the result. -/
abbrev xM : Memref sig .tc .vmem S4096x512 .bf16 := Memref.whole cc0_stg0_0
abbrev wM : Memref sig .tc .vmem S512x8192 .bf16 := Memref.whole cc0_stg1_0
abbrev oM : Memref sig .tc .hbm S4096x8192 .bf16 := Memref.whole main_v1

/-- The columns of a direction's half of `w`. -/
theorem wcols_inb (di : Fin 2) : ∀ a, (![0, 4096 * di.val] : Fin 2 → Nat) a + S512x4096.size a ≤ S512x8192.size a := by
  revert di; decide
abbrev wRect (di : Fin 2) : Rect S512x8192 := Rect.unit (s := S512x8192) ![0, 4096 * di.val] S512x4096.size (wcols_inb di)

/-- The rows of `x` a device multiplies before the first hop. -/
abbrev x0Rect (d : Dev nD) : Rect S4096x512 := Rect.unit (s := S4096x512) (k0_off1 d) S512x512.size (k0_off1_inb d)

/-- Where the rows of `x` begin that a direction multiplies for a hop. -/
def xOff : Fin 2 → Dev nD → Fin 7 → Fin 2 → ℕ
  | 0, d, h => k0_off2 d (BitVec.ofNat 32 h.val)
  | 1, d, h => k0_off3 d (BitVec.ofNat 32 h.val)

theorem xOff_inb : ∀ (di : Fin 2) (d : Dev nD) (h : Fin 7), ∀ a, xOff di d h a + S512x512.size a ≤ S4096x512.size a
  | 0, d, h => k0_off2_inb d h
  | 1, d, h => k0_off3_inb d h

/-- Those rows. -/
abbrev xRect (di : Fin 2) (d : Dev nD) (h : Fin 7) : Rect S4096x512 :=
  Rect.unit (s := S4096x512) (xOff di d h) S512x512.size (xOff_inb di d h)

/-- Where the block of the result begins that a ring's copy writes; the first copy is that of hop 6. -/
def oOff : Fin 2 → Dev nD → Fin 8 → Fin 2 → Fin 2 → ℕ
  | 0, d, ⟨0, _⟩, li => k0_off4 d (BitVec.ofNat 32 (256 * li.val))
  | 0, d, ⟨j + 1, _⟩, li => k0_off6 d (BitVec.ofNat 32 j) (BitVec.ofNat 32 (256 * li.val))
  | 1, d, ⟨0, _⟩, li => k0_off5 d (BitVec.ofNat 32 (256 * li.val))
  | 1, d, ⟨j + 1, _⟩, li => k0_off7 d (BitVec.ofNat 32 j) (BitVec.ofNat 32 (256 * li.val))

theorem oOff_inb : ∀ (di : Fin 2) (d : Dev nD) (j : Fin 8) (li : Fin 2), ∀ a, oOff di d j li a + S256x4096.size a ≤ S4096x8192.size a
  | 0, d, ⟨0, _⟩, li => k0_off4_inb d li
  | 0, d, ⟨j + 1, h⟩, li => k0_off6_inb d ⟨j, Nat.lt_of_succ_lt_succ h⟩ li
  | 1, d, ⟨0, _⟩, li => k0_off5_inb d li
  | 1, d, ⟨j + 1, h⟩, li => k0_off7_inb d ⟨j, Nat.lt_of_succ_lt_succ h⟩ li

/-- The block of the result a ring's copy writes. -/
abbrev oRect (di : Fin 2) (d : Dev nD) (j : Fin 8) (li : Fin 2) : Rect S4096x8192 :=
  Rect.unit (s := S4096x8192) (oOff di d j li) S256x4096.size (oOff_inb di d j li)

theorem oRect_words : ∀ (di : Fin 2) (d : Dev nD) (j : Fin 8) (li : Fin 2), (oRect di d j li).WholeWords (EltTy.packing .bf16)
  | 0, d, ⟨0, _⟩, li => k0_off4_wordsbf16 d li
  | 0, d, ⟨j + 1, h⟩, li => k0_off6_wordsbf16 d ⟨j, Nat.lt_of_succ_lt_succ h⟩ li
  | 1, d, ⟨0, _⟩, li => k0_off5_wordsbf16 d li
  | 1, d, ⟨j + 1, h⟩, li => k0_off7_wordsbf16 d ⟨j, Nat.lt_of_succ_lt_succ h⟩ li

abbrev oBlk (di : Fin 2) (d : Dev nD) (j : Fin 8) (li : Fin 2) : Memref sig .tc .hbm S256x4096 .bf16 :=
  oM.slice (oRect di d j li) (fun _ => rfl)

theorem oBlk_wordExact (di : Fin 2) (d : Dev nD) (j : Fin 8) (li : Fin 2) : (oBlk di d j li).view.WordExact :=
  (Memref.isWhole_whole main_v1).wordExact_slice rfl _ (oRect_words di d j li)

/-! ## The values -/

/-- One device's partial product of 512 rows with a half of the columns. -/
abbrev part (x : Vec F S512x512 .bf16) (w : Vec F S512x4096 .bf16) : FVec F S512x4096 .bf16 := k0_pay1 x w

theorem half_slices : ∀ li : Fin 2, S512x4096.Slices ![256 * li.val, 0] S256x4096
  | 0 => slices_S512x4096_o0_0_S256x4096
  | 1 => slices_S512x4096_o256_0_S256x4096

/-- A row half of a partial product. -/
abbrev half (li : Fin 2) (p : FVec F S512x4096 .bf16) : FVec F S256x4096 .bf16 :=
  extractStridedSlice S256x4096 ![256 * li.val, 0] p (half_slices li)

/-- A row half, as a slot's rows. -/
abbrev lift (v : FVec F S256x4096 .bf16) : FVec F S1x256x4096 .bf16 := shapeCast S1x256x4096 v shapeCasts_S256x4096_S1x256x4096

/-- What a hop stores: what arrived, and the row half of the device's own partial product. -/
abbrev acc (li : Fin 2) (p : FVec F S512x4096 .bf16) (v : Vec F S1x256x4096 .bf16) : FVec F S1x256x4096 .bf16 :=
  lift (addf (shapeCast S256x4096 v shapeCasts_S1x256x4096_S256x4096) (half li p))

/-! ## The operations of a ring -/

/-- The partial product a direction adds at a hop. -/
def partProg (di : Fin 2) (d : Dev nD) (h : Fin 7) : TcProg F (FVec F S512x4096 .bf16) := do
  let x ← Prog.lift (.load xM (xRect di d h).toLoadRect (View.loadsAt_vmem h_S512x512))
  let w ← Prog.lift (.load wM (wRect di).toLoadRect (View.loadsAt_vmem h_S512x4096))
  pure (part x w)

/-- The partial product a direction begins with. -/
def part0Prog (di : Fin 2) (d : Dev nD) : TcProg F (FVec F S512x4096 .bf16) := do
  let x ← Prog.lift (.load xM (x0Rect d).toLoadRect (View.loadsAt_vmem h_S512x512))
  let w ← Prog.lift (.load wM (wRect di).toLoadRect (View.loadsAt_vmem h_S512x4096))
  pure (part x w)

/-- A slot's rows are stored; the load before it is not used. -/
def storeProg (di li s : Fin 2) (v : FVec F S1x256x4096 .bf16) : TcProg F PUnit := do
  let _ ← Prog.lift (.load (comm di li) (slotRect s).toLoadRect (View.loadsAt_vmem h_S1x256x4096))
  Prog.lift (.store (comm di li) (slotRect s) v Finset.univ
    (View.stores_vmem h_S1x256x4096 ((comm_whole di li).storeExact_slice rfl _ (slot_packed s)) (fun _ => rfl)) (.inl rfl))

/-- The device's partial product is added to what arrived. -/
def accProg (di li s : Fin 2) (p : FVec F S512x4096 .bf16) : TcProg F PUnit := do
  let v ← Prog.lift (.load (comm di li) (slotRect s).toLoadRect (View.loadsAt_vmem h_S1x256x4096))
  storeProg di li s (acc li p v)

theorem send_typed (a b : DmaSem sig) (c' : Thread nD τ) (dst : Memref sig c'.2.kind .vmem S256x4096 .bf16)
    (h : dst.view.ref.isScScratch = false) :
    DmaTarget.Typed (p := Proc.tc) .vmem (.dma b) (.remote c' dst (.dma a) h) := ⟨⟨rfl, Or.inl rfl⟩, trivial⟩

/-- A hop's send: this hop's slot to the other slot of the neighbour. -/
def sendProg (di li : Fin 2) (d : Dev nD) (h : ℕ) : TcProg F PUnit :=
  Prog.lift (.enqueueDma (slot di li (par h))
    (.remote (Dev.tc (dnD di d)) (slot di li (par (h + 1))) (.dma (sendSem di li (par h))) (slot_plain di li _))
    (.dma (recvSem di li (par (h + 1)))) (slot_wordExact di li _) (slot_wordExact di li _) (send_typed _ _ _ _ _))

/-- A hop's arrival. -/
def recvProg (di li : Fin 2) (h : ℕ) : TcProg F PUnit :=
  Prog.lift (.waitDma2 (recvSem di li (par (h + 1))) (slot di li (par h)) (slot di li (par (h + 1)))
    (slot_wordExact di li _) (slot_wordExact di li _))

/-- The end of a hop's own send. -/
def sentProg (di li : Fin 2) (h : ℕ) : TcProg F PUnit :=
  Prog.lift (.waitDma2 (sendSem di li (par h)) (slot di li (par (h + 1))) (slot di li (par h))
    (slot_wordExact di li _) (slot_wordExact di li _))

/-- The copy of a reduced or gathered block into the result: copy `j` is that of hop `6 + j`. -/
def copyProg (di li : Fin 2) (d : Dev nD) (j : Fin 8) : TcProg F PUnit :=
  Prog.lift (.enqueueDma (slot di li (par (j.val + 7))) (.here (oBlk di d j li)) (.dma (copySem di li (par j.val)))
    (slot_wordExact di li _) (oBlk_wordExact di d j li) ⟨Or.inl rfl, trivial⟩)

/-- The end of that copy. -/
def copiedProg (di li : Fin 2) (d : Dev nD) (j : Fin 8) : TcProg F PUnit :=
  Prog.lift (.waitDma2 (copySem di li (par j.val)) (slot di li (par (j.val + 7))) (oBlk di d j li)
    (slot_wordExact di li _) (oBlk_wordExact di d j li))

/-- The credit to the neighbour that sends to this device: the slot of this hop is free. -/
def creditProg (di li : Fin 2) (d : Dev nD) : TcProg F PUnit :=
  semSignalWord (upD di d) (creditSem di li) 1#32

/-- The wait for the other neighbour's credit. -/
def creditedProg (di li : Fin 2) : TcProg F PUnit := semWaitWord (creditSem di li) 1#32

/-! ## The hops -/

/-- A hop's arrival, and the end of its send. -/
def arriveProg (di li : Fin 2) (h : ℕ) : TcProg F PUnit := do
  recvProg di li h
  sentProg di li h

/-- The next hop's send, once the neighbour has a free slot for it. -/
def forwardProg (di li : Fin 2) (d : Dev nD) (h : ℕ) : TcProg F PUnit := do
  creditedProg di li
  sendProg di li d (h + 1)

/-- A hop of the reduction, before the last. -/
def stepA (di li : Fin 2) (d : Dev nD) (h : ℕ) (p : FVec F S512x4096 .bf16) : TcProg F PUnit := do
  arriveProg di li h
  creditProg di li d
  accProg di li (par (h + 1)) p
  forwardProg di li d h

/-- The last hop of the reduction: the reduced block goes to the result as well. -/
def stepB (di li : Fin 2) (d : Dev nD) (p : FVec F S512x4096 .bf16) : TcProg F PUnit := do
  arriveProg di li 6
  creditProg di li d
  accProg di li (par 7) p
  copyProg di li d 0
  forwardProg di li d 6

/-- A hop of the gathering, before the last: hop `7 + j`. -/
def stepC (di li : Fin 2) (d : Dev nD) (j : ℕ) (hj : j < 7) : TcProg F PUnit := do
  arriveProg di li (j + 7)
  copiedProg di li d ⟨j, Nat.lt_succ_of_lt hj⟩
  creditProg di li d
  copyProg di li d ⟨j + 1, Nat.succ_lt_succ hj⟩
  forwardProg di li d (j + 7)

/-- The last hop. -/
def stepD (di li : Fin 2) (d : Dev nD) : TcProg F PUnit := do
  arriveProg di li 13
  copiedProg di li d 6
  copyProg di li d 7

/-- One hop on the four rings, in the order the kernel takes them. -/
abbrev four (f : Fin 2 → Fin 2 → TcProg F PUnit) : TcProg F PUnit := do
  f 0 0
  f 1 0
  f 0 1
  f 1 1

/-- The partial products of a hop. -/
def parts (d : Dev nD) (h : Fin 7) : TcProg F (Fin 2 → FVec F S512x4096 .bf16) := do
  let p0 ← partProg 0 d h
  let p1 ← partProg 1 d h
  pure (fun di => if di = 0 then p0 else p1)

/-- The first hops of the reduction, each followed by the next hop's partial products. -/
def redProg (d : Dev nD) : (n : ℕ) → n < 7 → TcProg F (Fin 2 → FVec F S512x4096 .bf16)
  | 0, hn => parts d ⟨0, hn⟩
  | n + 1, hn => do
      let p ← redProg d n (Nat.lt_of_succ_lt hn)
      four fun di li => stepA di li d n (p di)
      parts d ⟨n + 1, hn⟩

/-- The first hops of the gathering. -/
def gatherProg (d : Dev nD) : (n : ℕ) → n < 7 → TcProg F PUnit
  | 0, _ => pure ⟨⟩
  | n + 1, hn => do
      gatherProg d n (Nat.lt_of_succ_lt hn)
      four fun di li => stepC di li d n (Nat.lt_of_succ_lt hn)

/-- What comes before the hops. -/
def startProg (d : Dev nD) : TcProg F PUnit := do
  let p0 ← part0Prog 0 d
  let p1 ← part0Prog 1 d
  storeProg 0 0 0 (lift (half 0 p0))
  storeProg 0 1 0 (lift (half 1 p0))
  storeProg 1 0 0 (lift (half 0 p1))
  storeProg 1 1 0 (lift (half 1 p1))
  semSignalWord (leftD d) barSem 1#32
  semSignalWord (rightD d) barSem 1#32
  semWaitWord barSem 2#32
  four fun di li => sendProg di li d 0

/-- The body. -/
def body : TcProg F PUnit := do
  let d ← Prog.lift .deviceId
  startProg d
  let p ← redProg d 6 (by decide)
  four fun di li => stepB di li d (p di)
  gatherProg d 6 (by decide)
  four fun di li => stepD di li d
  four fun di li => copiedProg di li d 7

set_option maxRecDepth 100000 in
/-- The printed body is the sequence of the rings' operations. -/
theorem body_eq : cc0_body (F := F) xM (Memref.isWhole_whole _) wM (Memref.isWhole_whole _) oM (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    cc0_scratch4 cc0_scratch5 cc0_scratch6 cc0_scratch7 = body := by
  sl_kernel_rfl

end Cert.KernelIdeal.Rings
-- ==== Proof.Cells.lean ====
module

public import proofs.«01_k».proof.Proof.Rings
public import proofs.«01_k».proof.Proof.Gen.KernelIdeal.Launch

/-!
# The devices of the ring and the cells of a device

Who a direction sends to and receives from, the semaphore cells of a device under one index, and
the labels of what is owed: a label is its own level.
-/

@[expose] public section

noncomputable section

namespace Cert.KernelIdeal.Rings

open Idealize.ShloMosaic Idealize.ShloMosaic.TcCoe Idealize.SL.Sem Cert.KernelIdeal.Gen

theorem up_val : ∀ (di : Fin 2) (c : Dev nD), (upD di c).val = (c.val + 7 - 6 * di.val) % 8 := by decide +kernel
theorem dn_val : ∀ (di : Fin 2) (c : Dev nD), (dnD di c).val = (c.val + 1 + 6 * di.val) % 8 := by decide +kernel

theorem dn_up (di : Fin 2) (c : Dev nD) : dnD di (upD di c) = c := by
  have hc : c.val < 8 := c.isLt
  exact Fin.ext (by rw [dn_val, up_val]; omega)

theorem up_dn (di : Fin 2) (c : Dev nD) : upD di (dnD di c) = c := by
  have hc : c.val < 8 := c.isLt
  exact Fin.ext (by rw [up_val, dn_val]; omega)

/-- A direction, as a permutation of the devices. -/
def ring (di : Fin 2) : Dev nD ≃ Dev nD := ⟨dnD di, upD di, up_dn di, dn_up di⟩

theorem par_add_two (h : ℕ) : par (h + 2) = par h := Fin.ext (Nat.add_mod_right h 2)

theorem par_val (h : ℕ) : (par h).val = h % 2 := rfl

/-! ## Cells -/

/-- The three arrays of transfer semaphores. -/
inductive Arr | snd | rcv | cpy
  deriving DecidableEq

instance : Fintype Arr := ⟨{.snd, .rcv, .cpy}, fun a => by cases a <;> decide⟩

/-- The semaphores of an array. -/
def Arr.sems : Arr → DmaSems sig S2x2x2
  | .snd => cc0_scratch4
  | .rcv => cc0_scratch5
  | .cpy => cc0_scratch7

/-- A device's own cells: a ring's credit cell, or the cell of a slot of it in one of the arrays. -/
abbrev OCell : Type := (Fin 2 × Fin 2) × Option (Arr × Fin 2)

/-- A device's cells: its barrier cell, or one of its own. -/
abbrev Cell : Type := Option OCell

def ocellSem : OCell → SemLoc sig
  | (k, none) => .reg (creditSem k.1 k.2)
  | (k, some (a, s)) => .dma (cellOf a.sems k.1 k.2 s)

def cellSem : Cell → SemLoc sig
  | none => .reg barSem
  | some o => ocellSem o

def bit (n : ℕ) : Fin 2 := ⟨n % 2, Nat.mod_lt n (by decide)⟩

/-- Which of a device's cells a semaphore is, from its number. -/
def decode : SemLoc sig → Option Cell
  | .reg q => if q.val < 4 then some (some ((bit (q.val / 2), bit q.val), none)) else some none
  | .dma q =>
      if q.val < 2 then none
      else some (some ((bit ((q.val - 2) / 4), bit ((q.val - 2) / 2)),
        some (if q.val < 10 then .snd else if q.val < 18 then .rcv else .cpy, bit q.val)))

theorem decode_cellSem : ∀ x : Cell, decode (cellSem x) = some x := by decide +kernel

theorem cellSem_injective : Function.Injective cellSem := fun x y h => by
  have := decode_cellSem x
  rw [h, decode_cellSem y] at this
  exact (Option.some.inj this).symm

/-- A cell of a device. -/
abbrev kcell (c : Dev nD) (x : Cell) : GSem nD τ sig := ((c : Thread nD τ), cellSem x)

abbrev barC (c : Dev nD) : GSem nD τ sig := kcell c none
abbrev crdC (c : Dev nD) (di li : Fin 2) : GSem nD τ sig := kcell c (some ((di, li), none))
abbrev dmaC (a : Arr) (c : Dev nD) (di li s : Fin 2) : GSem nD τ sig := kcell c (some ((di, li), some (a, s)))

theorem kcell_injective : Function.Injective fun p : Dev nD × Cell => kcell p.1 p.2 := by
  rintro ⟨c, x⟩ ⟨c', x'⟩ h
  have h1 : c = c' := congrArg (fun g : GSem nD τ sig => g.1.1) h
  have h2 : x = x' := cellSem_injective (congrArg Prod.snd h)
  rw [h1, h2]

/-- The units one transfer credits. -/
def N : ℕ := (slot 0 0 0).view.dmaCredit
theorem N_pos : 0 < N := View.dmaCredit_pos _ (by decide)

theorem slot_credit : ∀ di li s : Fin 2, (slot di li s).view.dmaCredit = N
  | 0, 0, _ => rfl
  | 0, 1, _ => rfl
  | 1, 0, _ => rfl
  | 1, 1, _ => rfl

theorem oBlk_credit (di : Fin 2) (d : Dev nD) (j : Fin 8) (li : Fin 2) : (oBlk di d j li).view.dmaCredit = N := rfl

attribute [irreducible] N

/-! ## Labels -/

/-- The label of a hop's arrival, and of the credit a hop pays. -/
abbrev rl (di li : Fin 2) (h : ℕ) : ℕ := 8 * h + 2 * (2 * li.val + di.val) + 3
abbrev cl (di li : Fin 2) (h : ℕ) : ℕ := 8 * h + 2 * (2 * li.val + di.val) + 10

def L (g : GSem nD τ sig) : Finset ℕ := if g.1.2 = .tc then Finset.range 200 else ∅
def lv (_ : GSem nD τ sig) (i : ℕ) : ℕ := i

theorem L_of_ne (g : GSem nD τ sig) (h : g.1.2 ≠ .tc) : L g = ∅ := if_neg h

/-- Everything owed is owed to cores, at labels above `n`. -/
def Above (O : CellTallies nD τ sig ℕ) (n : ℕ) : Prop := ∀ g u, 0 < O g u → g.1.2 = .tc ∧ n < u ∧ u < 200

theorem Above.zero (n : ℕ) : Above 0 n := fun _ _ h => absurd h (Nat.lt_irrefl 0)

theorem Above.add {O O' : CellTallies nD τ sig ℕ} {n : ℕ} (h : Above O n) (h' : Above O' n) : Above (O + O') n := fun g u hp => by
  rw [Pi.add_apply, Finsupp.add_apply] at hp
  rcases Nat.eq_zero_or_pos (O g u) with h0 | h0
  · exact h' g u (by omega)
  · exact h g u h0

theorem Above.tally {c : Dev nD} {x : Cell} {u k n : ℕ} (h : n < u) (h' : u < 200) : Above (tallyAt (kcell c x) u k) n := fun g v hp => by
  obtain ⟨rfl, rfl⟩ := Pipeline.tallyAt_pos hp
  exact ⟨rfl, h, h'⟩

theorem Above.sum {S : Finset ℕ} {f : ℕ → CellTallies nD τ sig ℕ} {n : ℕ} (h : ∀ i ∈ S, Above (f i) n) : Above (∑ i ∈ S, f i) n := by
  classical
  induction S using Finset.induction_on with
  | empty => rw [Finset.sum_empty]; exact Above.zero n
  | insert a S ha ih =>
    rw [Finset.sum_insert ha]
    exact (h a (Finset.mem_insert_self a S)).add (ih fun i hi => h i (Finset.mem_insert_of_mem hi))

/-- A range begins with its first number. -/
theorem Ico_peel {a b : ℕ} (h : a < b) : Finset.Ico a b = insert a (Finset.Ico (a + 1) b) := by
  ext i; rw [Finset.mem_insert, Finset.mem_Ico, Finset.mem_Ico]; omega

theorem notMem_Ico_succ (a b : ℕ) : a ∉ Finset.Ico (a + 1) b := fun h => by
  have := Finset.mem_Ico.mp h; omega

/-! ## What a device owes -/

/-- The ring of a step: the rings take turns. -/
def stepDi (m : ℕ) : Fin 2 := bit m
def stepLi (m : ℕ) : Fin 2 := bit (m / 2)

/-- What a send owes the neighbour, and what a hop's credit owes the other one. -/
abbrev owSend (c : Dev nD) (di li : Fin 2) (h : ℕ) : CellTallies nD τ sig ℕ :=
  tallyAt (dmaC .rcv (dnD di c) di li (par (h + 1))) (rl di li h) N
abbrev owCredit (c : Dev nD) (di li : Fin 2) (h : ℕ) : CellTallies nD τ sig ℕ :=
  tallyAt (crdC (upD di c) di li) (cl di li h) 1

/-- What a step pays: a hop's credit, and then the next hop's send. -/
def owStep (c : Dev nD) (m : ℕ) : CellTallies nD τ sig ℕ :=
  owSend c (stepDi m) (stepLi m) (m / 4 + 1) + owCredit c (stepDi m) (stepLi m) (m / 4)

/-- What is still to be paid at a step. -/
def O (c : Dev nD) (n : ℕ) : CellTallies nD τ sig ℕ := ∑ m ∈ Finset.Ico n 52, owStep c m

theorem O_end (c : Dev nD) {n : ℕ} (h : 52 ≤ n) : O c n = 0 := by
  unfold O; rw [Finset.Ico_eq_empty_of_le h, Finset.sum_empty]

/-- The step of a ring's hop. -/
abbrev stepNo (di li : Fin 2) (h : ℕ) : ℕ := 4 * h + (2 * li.val + di.val)

theorem owStep_eq (c : Dev nD) (di li : Fin 2) (h : ℕ) :
    owStep c (stepNo di li h) = owSend c di li (h + 1) + owCredit c di li h := by
  have hd : stepDi (stepNo di li h) = di := Fin.ext (by show (4 * h + (2 * li.val + di.val)) % 2 = di.val; omega)
  have hl : stepLi (stepNo di li h) = li := Fin.ext (by show (4 * h + (2 * li.val + di.val)) / 2 % 2 = li.val; omega)
  have hh : stepNo di li h / 4 = h := by show (4 * h + (2 * li.val + di.val)) / 4 = h; omega
  unfold owStep; rw [hd, hl, hh]

/-- The step pays its two dues. -/
theorem O_step (c : Dev nD) (di li : Fin 2) {h : ℕ} (hh : h < 13) :
    O c (stepNo di li h) = O c (stepNo di li h + 1) + owSend c di li (h + 1) + owCredit c di li h := by
  unfold O
  rw [Ico_peel (show stepNo di li h < 52 by show 4 * h + (2 * li.val + di.val) < 52; omega),
    Finset.sum_insert (notMem_Ico_succ _ _), owStep_eq]
  exact (add_comm _ _).trans (add_assoc _ _ _).symm

theorem owStep_above (c : Dev nD) {m n : ℕ} (hm : m < 52) (hn : n < 2 * m + 10) : Above (owStep c m) n := by
  have h1 : rl (stepDi m) (stepLi m) (m / 4 + 1) = 2 * m + 11 := by
    show 8 * (m / 4 + 1) + 2 * (2 * (m / 2 % 2) + m % 2) + 3 = _; omega
  have h2 : cl (stepDi m) (stepLi m) (m / 4) = 2 * m + 10 := by
    show 8 * (m / 4) + 2 * (2 * (m / 2 % 2) + m % 2) + 10 = _; omega
  exact Above.add (Above.tally (by rw [h1]; omega) (by rw [h1]; omega)) (Above.tally (by rw [h2]; omega) (by rw [h2]; omega))

theorem O_above (c : Dev nD) {m n : ℕ} (hn : n < 2 * m + 10) : Above (O c m) n :=
  Above.sum fun i hi => by
    have h := Finset.mem_Ico.mp hi
    exact owStep_above c h.2 (by omega)

/-- What a device owes before its first sends. -/
def O1 (c : Dev nD) : CellTallies nD τ sig ℕ :=
  O c 0 + owSend c 1 1 0 + owSend c 0 1 0 + owSend c 1 0 0 + owSend c 0 0 0

/-- What a device owes at launch: its signals as well. -/
def O0 (c : Dev nD) : CellTallies nD τ sig ℕ :=
  O1 c + tallyAt (barC (upD 1 c)) 2 1 + tallyAt (barC (upD 0 c)) 2 1

theorem send0_above (c : Dev nD) (di li : Fin 2) {n : ℕ} (hn : n < 3) : Above (owSend c di li 0) n :=
  Above.tally (by show n < 8 * 0 + 2 * (2 * li.val + di.val) + 3; omega) (by show 8 * 0 + 2 * (2 * li.val + di.val) + 3 < 200; omega)

theorem O1_above (c : Dev nD) {n : ℕ} (hn : n < 3) : Above (O1 c) n :=
  ((((O_above c (by omega)).add (send0_above c 1 1 hn)).add (send0_above c 0 1 hn)).add (send0_above c 1 0 hn)).add (send0_above c 0 0 hn)

theorem O0_above (c : Dev nD) : Above (O0 c) 0 :=
  ((O1_above c (by omega)).add (Above.tally (by omega) (by omega))).add (Above.tally (by omega) (by omega))

end Cert.KernelIdeal.Rings
-- ==== Proof.Schedule.lean ====
module

public import proofs.«01_k».proof.Proof.Cells

/-!
# What the slots hold, and what the cells hand over

`X di li h c` is what device `c` sends on a ring at hop `h`. The schedule says, for each cell of a
device and each round of it, what its owner gets when it waits: a slot that arrived, a slot whose
send or copy is over, or the neighbour's free slot.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## Contents -/

/-- The two operands on every device. -/
structure Args (F : FTy → Type) where
  x : Dev nD → (cc0_stg0_0 : Ref sig .tc).ty.Contents (Elt F)
  w : Dev nD → (cc0_stg1_0 : Ref sig .tc).ty.Contents (Elt F)

/-- A device's half of the columns of `w`. -/
def wOf (A : Args F) (di : Fin 2) (c : Dev nD) : Vec F S512x4096 .bf16 := wM.view.readAt (Elt F) (wRect di).toLoadRect (A.w c)

/-- The partial product a device begins a ring with, and the one it adds at a hop. -/
def P0 (A : Args F) (di : Fin 2) (c : Dev nD) : FVec F S512x4096 .bf16 :=
  part (xM.view.readAt (Elt F) (x0Rect c).toLoadRect (A.x c)) (wOf A di c)
def P (A : Args F) (di : Fin 2) (c : Dev nD) (h : Fin 7) : FVec F S512x4096 .bf16 :=
  part (xM.view.readAt (Elt F) (xRect di c h).toLoadRect (A.x c)) (wOf A di c)

/-- What a device sends on a ring at a hop. -/
def X (A : Args F) (di li : Fin 2) : ℕ → Dev nD → FVec F S256x4096 .bf16
  | 0, c => half li (P0 A di c)
  | h + 1, c => if hh : h < 7 then addf (X A di li h (upD di c)) (half li (P A di c ⟨h, hh⟩)) else X A di li h (upD di c)

theorem X_red (A : Args F) (di li : Fin 2) (c : Dev nD) {h : ℕ} (hh : h < 7) :
    X A di li (h + 1) c = addf (X A di li h (upD di c)) (half li (P A di c ⟨h, hh⟩)) := dif_pos hh

theorem X_gather (A : Args F) (di li : Fin 2) (c : Dev nD) {h : ℕ} (hh : 7 ≤ h) :
    X A di li (h + 1) c = X A di li h (upD di c) := dif_neg (Nat.not_lt.2 hh)

/-! ## The resources -/

abbrev UB : Type := URounds (GSem nD τ sig) (Fin 2)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-- A copy's number. -/
def jj (j : ℕ) : Fin 8 := ⟨j % 8, Nat.mod_lt j (by decide)⟩

theorem jj_val (j : Fin 8) : jj j.val = j := Fin.ext (Nat.mod_eq_of_lt j.isLt)

/-- A slot of a device, at a share, holding `Y`. -/
abbrev slotAt (c : Dev nD) (di li s : Fin 2) (q : PosShare TreeShare) (Y : FVec F S256x4096 .bf16) : sProp 𝕄 :=
  owns (c : Thread nD τ) (slot di li s) q Y

/-- A slot of a device, whole, whatever it holds. -/
def freeSlot (c : Dev nD) (di li s : Fin 2) : sProp 𝕄 := iprop(∃ Y, slotAt (F := F) c di li s fullShare Y)

/-- A block of a device's result holding `Y`. -/
abbrev blkAt (c : Dev nD) (di : Fin 2) (j : Fin 8) (li : Fin 2) (Y : FVec F S256x4096 .bf16) : sProp 𝕄 :=
  owns (c : Thread nD τ) (oBlk di c j li) fullShare Y

/-! ## What a cell hands its owner -/

variable (A : Args F)

def rcvPay (c : Dev nD) (di li : Fin 2) (h : ℕ) : sProp 𝕄 :=
  iprop(slotAt c di li (par (h + 1)) fullShare (X A di li h (upD di c)) ∗ reached ER (crdC (upD di c) di li) h)

def sndPay (c : Dev nD) (di li : Fin 2) (h : ℕ) : sProp 𝕄 := slotAt c di li (par h) fullShare.left (X A di li h c)

def cpyPay (c : Dev nD) (di li : Fin 2) (j : ℕ) : sProp 𝕄 :=
  iprop(blkAt c di (jj j) li (X A di li (j + 7) c) ∗ slotAt c di li (par (j + 7)) fullShare.right (X A di li (j + 7) c))

def crdPay (c : Dev nD) (di li : Fin 2) (h : ℕ) : sProp 𝕄 :=
  iprop(freeSlot (dnD di c) di li (par h) ∗ reached ER (dmaC .rcv (dnD di c) di li (par h)) ((h + 1) / 2))

def barPay (c : Dev nD) (di : Fin 2) : sProp 𝕄 := iprop(freeSlot (dnD di c) di 0 1 ∗ freeSlot (dnD di c) di 1 1)

/-- The rounds of a cell and their duties. -/
def cellDuties : Cell → ℕ → Finset (Fin 2)
  | none, r => if r = 0 then Finset.univ else ∅
  | some (_, none), r => if r < 13 then {0} else ∅
  | some (_, some (.cpy, _)), r => if r < 4 then {0} else ∅
  | some (_, some (.snd, _)), r => if r < 7 then {0} else ∅
  | some (_, some (.rcv, _)), r => if r < 7 then {0} else ∅

def cellAmount : Cell → ℕ
  | none => 1
  | some (_, none) => 1
  | some (_, some _) => N

theorem cellAmount_pos (x : Cell) : 0 < cellAmount x := by
  rcases x with _ | ⟨_, _ | _⟩
  · exact Nat.one_pos
  · exact Nat.one_pos
  · exact N_pos

def cellPay (c : Dev nD) : Cell → ℕ → Fin 2 → sProp 𝕄
  | none, _, d => barPay c d
  | some (k, none), r, _ => crdPay c k.1 k.2 r
  | some (k, some (.snd, s)), r, _ => sndPay A c k.1 k.2 (2 * r + s.val)
  | some (k, some (.rcv, s)), r, _ => rcvPay A c k.1 k.2 (2 * r + 1 - s.val)
  | some (k, some (.cpy, s)), r, _ => cpyPay A c k.1 k.2 (2 * r + s.val)

/-- The schedule. -/
def Rd : Schedule (GSem nD τ sig) (Fin 2) 𝕄 where
  duties g r := if g.1.2 = .tc then (decode g.2).elim ∅ fun x => cellDuties x r else ∅
  unitless _ := False
  amount g _ _ := (decode g.2).elim 1 cellAmount
  payload g r d := (decode g.2).elim iprop(emp) fun x => cellPay A g.1.1 x r d
  amount_pos g _ _ _ := by
    cases decode g.2 with
    | none => exact Nat.one_pos
    | some x => exact cellAmount_pos x

instance cellPay_storable (c : Dev nD) (x : Cell) (r : ℕ) (d : Fin 2) : BI.Storable (upEmb : UEmb _ 𝕄) (cellPay A c x r d) := by
  rcases x with _ | ⟨k, _ | ⟨_ | _ | _, s⟩⟩ <;> unfold cellPay
  · unfold barPay freeSlot; infer_instance
  · unfold crdPay freeSlot; infer_instance
  · unfold sndPay; infer_instance
  · unfold rcvPay; infer_instance
  · unfold cpyPay; infer_instance

instance payload_storable (g : GSem nD τ sig) (r : ℕ) (d : Fin 2) : BI.Storable (upEmb : UEmb _ 𝕄) ((Rd A).payload g r d) := by
  show BI.Storable upEmb ((decode g.2).elim iprop(emp) fun x => cellPay A g.1.1 x r d)
  cases decode g.2 with
  | none => show BI.Storable upEmb iprop(emp); infer_instance
  | some x => exact cellPay_storable A g.1.1 x r d

/-! ### The schedule at a device's cells -/

theorem duties_cell (c : Dev nD) (x : Cell) (r : ℕ) : (Rd A).duties (kcell c x) r = cellDuties x r := by
  dsimp only [Rd, kcell]; rw [decode_cellSem, if_pos rfl]; rfl

theorem amount_cell (c : Dev nD) (x : Cell) (r : ℕ) (d : Fin 2) : (Rd A).amount (kcell c x) r d = cellAmount x := by
  dsimp only [Rd, kcell]; rw [decode_cellSem]; rfl

theorem payload_cell (c : Dev nD) (x : Cell) (r : ℕ) (d : Fin 2) : (Rd A).payload (kcell c x) r d = cellPay A c x r d := by
  dsimp only [Rd, kcell]; rw [decode_cellSem]; rfl

theorem duty_mem (c : Dev nD) (x : Cell) (r : ℕ) (h : cellDuties x r = {0}) : (0 : Fin 2) ∈ (Rd A).duties (kcell c x) r := by
  rw [duties_cell, h]; exact Finset.mem_singleton_self _

theorem of_pay {P : sProp 𝕄} {c : Dev nD} {x : Cell} {r : ℕ} {d : Fin 2} (h : P ⊢ cellPay A c x r d) : P ⊢ (Rd A).payload (kcell c x) r d := by
  rw [payload_cell]; exact h

/-- A round with one duty expects that duty's units, and pays its payload. -/
theorem expect_one (c : Dev nD) (x : Cell) (r : ℕ) (h : cellDuties x r = {0}) : (Rd A).expect (kcell c x) r = cellAmount x := by
  unfold Schedule.expect Schedule.amountOf; rw [duties_cell, h, Finset.sum_singleton, amount_cell]

theorem rest_one (c : Dev nD) (x : Cell) (r : ℕ) (h : cellDuties x r = {0}) :
    bigSep ((Rd A).duties (kcell c x) r \ ∅) (fun d => (Rd A).payload (kcell c x) r d) = cellPay A c x r 0 := by
  rw [Finset.sdiff_empty, duties_cell, h, bigSep_singleton, payload_cell]

theorem expect_bar (c : Dev nD) : (Rd A).expect (barC c) 0 = 2 := by
  unfold Schedule.expect Schedule.amountOf
  rw [Finset.sum_congr rfl fun d _ => amount_cell A c none 0 d, duties_cell]; rfl

theorem rest_bar (c : Dev nD) :
    bigSep ((Rd A).duties (barC c) 0 \ ∅) (fun d => (Rd A).payload (barC c) 0 d) = iprop(barPay c 0 ∗ barPay c 1) := by
  rw [Finset.sdiff_empty, duties_cell, show cellDuties none 0 = Finset.univ from rfl,
    bigSep_univ_eq_bigSepL [0, 1] (by decide) (by decide), bigSepL_cons_cons, bigSepL_singleton, payload_cell, payload_cell]
  rfl

/-- A cell has no duty past its last round. -/
def cellRounds : Cell → ℕ
  | none => 1
  | some (_, none) => 13
  | some (_, some (.cpy, _)) => 4
  | some (_, some (.snd, _)) => 7
  | some (_, some (.rcv, _)) => 7

theorem duties_later (c : Dev nD) (x : Cell) : ∀ r, cellRounds x ≤ r → (Rd A).duties (kcell c x) r = ∅ := fun r hr => by
  rw [duties_cell]
  rcases x with _ | ⟨k, _ | ⟨_ | _ | _, s⟩⟩ <;> unfold cellDuties <;> unfold cellRounds at hr
  · exact if_neg (Nat.one_le_iff_ne_zero.mp hr)
  all_goals exact if_neg (Nat.not_lt.2 hr)

/-! ### By hop -/

theorem rcv_hop (h : ℕ) : 2 * (h / 2) + 1 - (par (h + 1)).val = h := by rw [par_val]; omega
theorem snd_hop (h : ℕ) : 2 * (h / 2) + (par h).val = h := by rw [par_val]; omega

theorem rcv_duties (k : Fin 2 × Fin 2) {h : ℕ} (hh : h < 14) (s : Fin 2) : cellDuties (some (k, some (.rcv, s))) (h / 2) = {0} := if_pos (by omega)
theorem snd_duties (k : Fin 2 × Fin 2) {h : ℕ} (hh : h < 14) (s : Fin 2) : cellDuties (some (k, some (.snd, s))) (h / 2) = {0} := if_pos (by omega)
theorem cpy_duties (k : Fin 2 × Fin 2) {j : ℕ} (hj : j < 8) (s : Fin 2) : cellDuties (some (k, some (.cpy, s))) (j / 2) = {0} := if_pos (by omega)
theorem crd_duties (k : Fin 2 × Fin 2) {h : ℕ} (hh : h < 13) : cellDuties (some (k, none)) h = {0} := if_pos hh

theorem rcv_pay (c : Dev nD) (di li : Fin 2) (h : ℕ) (d : Fin 2) :
    cellPay A c (some ((di, li), some (.rcv, par (h + 1)))) (h / 2) d = rcvPay A c di li h := by
  show rcvPay A c di li (2 * (h / 2) + 1 - (par (h + 1)).val) = _; rw [rcv_hop]

theorem snd_pay (c : Dev nD) (di li : Fin 2) (h : ℕ) (d : Fin 2) :
    cellPay A c (some ((di, li), some (.snd, par h))) (h / 2) d = sndPay A c di li h := by
  show sndPay A c di li (2 * (h / 2) + (par h).val) = _; rw [snd_hop]

theorem cpy_pay (c : Dev nD) (di li : Fin 2) (j : ℕ) (d : Fin 2) :
    cellPay A c (some ((di, li), some (.cpy, par j))) (j / 2) d = cpyPay A c di li j := by
  show cpyPay A c di li (2 * (j / 2) + (par j).val) = _; rw [snd_hop]

/-! ## The invariants -/

/-- The cells' invariants, that every cell is at its first round at least, and the levels. -/
def ctx (K : Dev nD × Cell → ℕ) : sProp 𝕄 :=
  iprop((bigSep Finset.univ fun p : Dev nD × Cell => cellInv ER (Rd A) (K p) (kcell p.1 p.2))
    ∗ (bigSep Finset.univ fun p : Dev nD × Cell => reached ER (kcell p.1 p.2) 0) ∗ levAts L lv)

instance ctx_persistent (K : Dev nD × Cell → ℕ) : BI.Persistent (ctx A K) := by unfold ctx; infer_instance

theorem ctx_inv (K : Dev nD × Cell → ℕ) (c : Dev nD) (x : Cell) : ctx A K ⊢ cellInv ER (Rd A) (K (c, x)) (kcell c x) := by
  unfold ctx
  iintro ⟨H, -, -⟩
  have h : (bigSep Finset.univ fun p : Dev nD × Cell => cellInv ER (Rd A) (K p) (kcell p.1 p.2)) ⊢ cellInv ER (Rd A) (K (c, x)) (kcell c x) :=
    bigSep_elim (Φ := fun p : Dev nD × Cell => cellInv ER (Rd A) (K p) (kcell p.1 p.2)) (Finset.mem_univ (c, x))
  iapply h; iexact H

theorem ctx_reached (K : Dev nD × Cell → ℕ) (c : Dev nD) (x : Cell) : ctx A K ⊢ reached ER (kcell c x) 0 := by
  unfold ctx
  iintro ⟨-, H, -⟩
  have h : (bigSep Finset.univ fun p : Dev nD × Cell => (reached ER (kcell p.1 p.2) 0 : sProp 𝕄)) ⊢ reached ER (kcell c x) 0 :=
    bigSep_elim (Φ := fun p : Dev nD × Cell => (reached ER (kcell p.1 p.2) 0 : sProp 𝕄)) (Finset.mem_univ (c, x))
  iapply h; iexact H

theorem mayWait (c : Dev nD) (sm : SemLoc sig) {n : ℕ} (hn : n < 200) {O : CellTallies nD τ sig ℕ} (hO : Above O n) :
    (levAts L lv : sProp 𝕄) ⊢ MayWait (c : Thread nD τ) sm n O :=
  MayOwe.of_cut (L := L) (lev := lv) n
    (fun p hp => by rw [Finset.mem_singleton.mp hp]; unfold L; rw [if_pos rfl]; exact Finset.mem_range.mpr hn)
    (fun g u hg => by
      obtain ⟨h1, _, h3⟩ := hO g u hg
      unfold L; rw [if_pos h1]; exact Finset.mem_range.mpr h3)
    (fun p hp => by rw [Finset.mem_singleton.mp hp]; exact le_refl n)
    (fun g u hg => (hO g u hg).2.1)

theorem ctx_mayWait (K : Dev nD × Cell → ℕ) (c : Dev nD) (sm : SemLoc sig) {n : ℕ} (hn : n < 200) {O : CellTallies nD τ sig ℕ} (hO : Above O n) :
    ctx A K ⊢ MayWait (c : Thread nD τ) sm n O := by
  unfold ctx
  iintro ⟨-, -, H⟩
  iapply (mayWait (F := F) c sm hn hO); iexact H

end Cert.KernelIdeal.Rings
-- ==== Proof.Ops.lean ====
module

public import proofs.«01_k».proof.Proof.Schedule
public import Idealize.ShloMosaic.Lib.Pipeline.Value

/-!
# The rings' operations, one at a time

What each operation of a ring takes and gives, over the ring, the hop and the device.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

abbrev 𝒱₀ : Variants := Variants.none

/-- The weakest precondition of a program of device `c`. -/
abbrev WP (c : Dev nD) {α : Type} (p : TcProg F α) (Q : α → sProp 𝕄) : sProp 𝕄 :=
  wp frame (wpE (defs₀ (F := F)) 𝒱₀ (c : Thread nD τ) none) Set.univ p Q

theorem WP_ret (c : Dev nD) {α : Type} (a : α) (Q : α → sProp 𝕄) : Q a ⊢ WP c (F := F) (.ret a) Q := by
  unfold WP; rw [wp_ret]; iintro H; imodintro; iexact H

/-- An operation, and then the rest. -/
theorem WP_seq (c : Dev nD) {P R : sProp 𝕄} {p : TcProg F PUnit} (h : P ⊢ WP c p fun _ => R) {α : Type} {k : PUnit → TcProg F α}
    {Q : α → sProp 𝕄} : P ⊢ iprop((R -∗ WP c (k ⟨⟩) Q) -∗ WP c (p >>= k) Q) := by
  unfold WP at h ⊢
  rw [wp_bind]
  iintro HP Hk
  ihave H := h $$ HP
  iapply (wp_wand frame (wpE (defs₀ (F := F)) 𝒱₀ (c : Thread nD τ) none) Set.univ (Q := fun _ => R)) $$ H
  iintro %u HR
  iapply Hk; iexact HR

/-- The last operation. -/
theorem WP_last (c : Dev nD) {P R : sProp 𝕄} {p : TcProg F PUnit} (h : P ⊢ WP c p fun _ => R)
    {Q : PUnit → sProp 𝕄} : P ⊢ iprop((R -∗ Q ⟨⟩) -∗ WP c p Q) := by
  unfold WP at h ⊢
  iintro HP Hk
  ihave H := h $$ HP
  iapply (wp_wand frame (wpE (defs₀ (F := F)) 𝒱₀ (c : Thread nD τ) none) Set.univ (Q := fun _ => R)) $$ H
  iintro %u HR
  iapply Hk; iexact HR

/-- A value, and then the rest. -/
theorem WP_val (c : Dev nD) {α β : Type} {P R : sProp 𝕄} {a : α} {p : TcProg F α} (h : P ⊢ WP c p fun x => iprop(⌜x = a⌝ ∗ R)) {k : α → TcProg F β}
    {Q : β → sProp 𝕄} : P ⊢ iprop((R -∗ WP c (k a) Q) -∗ WP c (p >>= k) Q) := by
  unfold WP at h ⊢
  rw [wp_bind]
  iintro HP Hk
  ihave H := h $$ HP
  iapply (wp_wand frame (wpE (defs₀ (F := F)) 𝒱₀ (c : Thread nD τ) none) Set.univ (Q := fun x => iprop(⌜x = a⌝ ∗ R))) $$ H
  iintro %u ⟨%hu, HR⟩
  subst hu
  iapply Hk; iexact HR

/-- What a device owes, whatever it has waited on. -/
def owesW (c : Dev nD) (O : CellTallies nD τ sig ℕ) : sProp 𝕄 := iprop(∃ W, owes (c : Thread nD τ) O W)

variable (A : Args F) (K : Dev nD × Cell → ℕ)

/-! ## Waits -/

/-- A wait for one transfer of a cell: what the round pays. -/
theorem dma_wait (c : Dev nD) (a : Arr) (di li s : Fin 2) (r : ℕ) (hr : cellDuties (some ((di, li), some (a, s))) r = {0})
    {n : ℕ} (hn : n < 200) {O : CellTallies nD τ sig ℕ} (hO : Above O n) {sp sp' : Space} {s' : Shape} {e' : EltTy}
    {src : Memref sig .tc sp' s' e'} {dst : Memref sig .tc sp S256x4096 .bf16} {hsrc : src.view.WordExact} {hdst : dst.view.WordExact}
    (hN : dst.view.dmaCredit = N) :
    iprop(ctx A K ∗ cred (tallyAt (dmaC a c di li s) n N) ∗ owesW c O ∗ atPos ER (dmaC a c di li s) r ∅ 0)
      ⊢ WP c (F := F) (Prog.lift (.waitDma2 (cellOf a.sems di li s) src dst hsrc hdst))
          fun _ => iprop(owesW c O ∗ atPos ER (dmaC a c di li s) (r + 1) ∅ 0 ∗ reached ER (dmaC a c di li s) (r + 1)
            ∗ cellPay A c (some ((di, li), some (a, s))) r 0) := by
  unfold owesW
  iintro ⟨#Hc, Hcr, ⟨%W, HO⟩, Hat⟩
  ihave #HI := (ctx_inv A K c (some ((di, li), some (a, s)))) $$ Hc
  ihave Hm := (ctx_mayWait A K c (cellSem (some ((di, li), some (a, s)))) hn hO) $$ Hc
  rw [← hN]
  iapply (Rounds.wp_wait_rest_token 𝒱₀ ER (Rd A) (c : Thread nD τ) none (κ := K (c, some ((di, li), some (a, s))))
      (wpE_waitDma2_eq 𝒱₀ (c : Thread nD τ) none Set.univ) (Set.mem_univ _) n (O := O) (W := W) (R := r) (m := 0) (T := ∅)
      ((Nat.zero_add _).trans (hN.trans (expect_one A c (some ((di, li), some (a, s))) r hr).symm))) $$ [Hcr HO Hat Hm]
  · isplitr; · iexact HI
    isplitl [Hcr]; · iexact Hcr
    isplitl [HO]; · iexact HO
    isplitl [Hm]; · iexact Hm
    iexact Hat
  iintro ⟨HO, Hat, Hr, Hp⟩
  iapply (WP_ret c)
  isplitl [HO]; · iexists _; iexact HO
  isplitl [Hat]; · iexact Hat
  isplitl [Hr]; · iexact Hr
  have hrest : (bigSep ((Rd A).duties ((c : Thread nD τ), SemLoc.dma (cellOf a.sems di li s)) r \ ∅)
      fun d => (Rd A).payload ((c : Thread nD τ), SemLoc.dma (cellOf a.sems di li s)) r d) = cellPay A c (some ((di, li), some (a, s))) r 0 :=
    rest_one A c (some ((di, li), some (a, s))) r hr
  rw [← hrest]; iexact Hp

/-- A hop's arrival. -/
theorem recv_wp (c : Dev nD) (di li : Fin 2) {h : ℕ} (hh : h < 14) {O : CellTallies nD τ sig ℕ} (hO : Above O (rl di li h)) :
    iprop(ctx A K ∗ cred (tallyAt (dmaC .rcv c di li (par (h + 1))) (rl di li h) N) ∗ owesW c O ∗ atPos ER (dmaC .rcv c di li (par (h + 1))) (h / 2) ∅ 0)
      ⊢ WP c (F := F) (recvProg di li h) fun _ => iprop(owesW c O ∗ atPos ER (dmaC .rcv c di li (par (h + 1))) (h / 2 + 1) ∅ 0
          ∗ reached ER (dmaC .rcv c di li (par (h + 1))) (h / 2 + 1) ∗ rcvPay A c di li h) := by
  rw [← rcv_pay A c di li h 0]
  exact dma_wait A K c .rcv di li (par (h + 1)) (h / 2) (rcv_duties (di, li) hh _) (by show 8 * h + 2 * (2 * li.val + di.val) + 3 < 200; omega) hO (slot_credit di li _)

/-- The end of a hop's send. -/
theorem sent_wp (c : Dev nD) (di li : Fin 2) {h : ℕ} (hh : h < 14) {O : CellTallies nD τ sig ℕ} (hO : Above O 0) :
    iprop(ctx A K ∗ cred (tallyAt (dmaC .snd c di li (par h)) 0 N) ∗ owesW c O ∗ atPos ER (dmaC .snd c di li (par h)) (h / 2) ∅ 0)
      ⊢ WP c (F := F) (sentProg di li h) fun _ => iprop(owesW c O ∗ atPos ER (dmaC .snd c di li (par h)) (h / 2 + 1) ∅ 0
          ∗ reached ER (dmaC .snd c di li (par h)) (h / 2 + 1) ∗ sndPay A c di li h) := by
  rw [← snd_pay A c di li h 0]
  exact dma_wait A K c .snd di li (par h) (h / 2) (snd_duties (di, li) hh _) (by omega) hO (slot_credit di li _)

/-- The end of a copy. -/
theorem copied_wp (c : Dev nD) (di li : Fin 2) (j : Fin 8) {O : CellTallies nD τ sig ℕ} (hO : Above O 0) :
    iprop(ctx A K ∗ cred (tallyAt (dmaC .cpy c di li (par j.val)) 0 N) ∗ owesW c O ∗ atPos ER (dmaC .cpy c di li (par j.val)) (j.val / 2) ∅ 0)
      ⊢ WP c (F := F) (copiedProg di li c j) fun _ => iprop(owesW c O ∗ atPos ER (dmaC .cpy c di li (par j.val)) (j.val / 2 + 1) ∅ 0
          ∗ reached ER (dmaC .cpy c di li (par j.val)) (j.val / 2 + 1) ∗ cpyPay A c di li j.val) := by
  rw [← cpy_pay A c di li j.val 0]
  exact dma_wait A K c .cpy di li (par j.val) (j.val / 2) (cpy_duties (di, li) j.isLt _) (by omega) hO (oBlk_credit di c j li)

/-- The wait for the neighbour's credit. -/
theorem credited_wp (c : Dev nD) (di li : Fin 2) {h : ℕ} (hh : h < 13) {O : CellTallies nD τ sig ℕ} (hO : Above O (cl di li h)) :
    iprop(ctx A K ∗ cred (tallyAt (crdC c di li) (cl di li h) 1) ∗ owesW c O ∗ atPos ER (crdC c di li) h ∅ 0)
      ⊢ WP c (F := F) (creditedProg di li) fun _ => iprop(owesW c O ∗ atPos ER (crdC c di li) (h + 1) ∅ 0
          ∗ reached ER (crdC c di li) (h + 1) ∗ crdPay (F := F) c di li h) := by
  unfold owesW
  iintro ⟨#Hc, Hcr, ⟨%W, HO⟩, Hat⟩
  ihave #HI := (ctx_inv A K c (some ((di, li), none))) $$ Hc
  ihave Hm := (ctx_mayWait A K c (cellSem (some ((di, li), none))) (n := cl di li h) (by show 8 * h + 2 * (2 * li.val + di.val) + 10 < 200; omega) hO) $$ Hc
  iapply (Rounds.wp_wait_rest_token 𝒱₀ ER (Rd A) (c : Thread nD τ) none (κ := K (c, some ((di, li), none)))
      (wpE_semWait_eq 𝒱₀ (c : Thread nD τ) none Set.univ) (Set.mem_univ _) (cl di li h) (O := O) (W := W) (R := h) (m := 0) (T := ∅)
      (show 0 + (1#32).toNat = (Rd A).expect (kcell c (some ((di, li), none))) h from
        (show 0 + (1#32).toNat = cellAmount (some ((di, li), none)) from rfl).trans (expect_one A c (some ((di, li), none)) h (crd_duties (di, li) hh)).symm)) $$ [Hcr HO Hat Hm]
  · isplitr; · iexact HI
    isplitl [Hcr]; · iexact Hcr
    isplitl [HO]; · iexact HO
    isplitl [Hm]; · iexact Hm
    iexact Hat
  iintro ⟨HO, Hat, Hr, Hp⟩
  iapply (WP_ret c)
  isplitl [HO]; · iexists _; iexact HO
  isplitl [Hat]; · iexact Hat
  isplitl [Hr]; · iexact Hr
  have hrest : (bigSep ((Rd A).duties ((c : Thread nD τ), SemLoc.reg (creditSem di li)) h \ ∅)
      fun d => (Rd A).payload ((c : Thread nD τ), SemLoc.reg (creditSem di li)) h d) = crdPay (F := F) c di li h :=
    rest_one A c (some ((di, li), none)) h (crd_duties (di, li) hh)
  rw [← hrest]; iexact Hp

/-! ## Credits, sends and copies -/

/-- The credit to the neighbour that sends: this hop's slot, and that the slot's arrivals are at the next round. -/
theorem credit_wp (c : Dev nD) (di li : Fin 2) {h : ℕ} (hh : h < 13) {O O' : CellTallies nD τ sig ℕ} (hO : O = O' + owCredit c di li h) :
    iprop(ctx A K ∗ owesW c O ∗ dutyTok ER (crdC (upD di c) di li) h 0 ∗ reached ER (crdC (upD di c) di li) h
        ∗ freeSlot (F := F) c di li (par h) ∗ reached ER (dmaC .rcv c di li (par h)) ((h + 1) / 2))
      ⊢ WP c (F := F) (creditProg di li c) fun _ => owesW c O' := by
  unfold owesW
  iintro ⟨#Hc, ⟨%W, HO⟩, Ht, Hr, Hs, Hrr⟩
  ihave #HI := (ctx_inv A K (upD di c) (some ((di, li), none))) $$ Hc
  iapply (Rounds.wp_signal 𝒱₀ ER (Rd A) (c : Thread nD τ) none (dst := (upD di c : Thread nD τ)) (κ := K (upD di c, some ((di, li), none))) (r := h)
      (d := 0) (duty_mem A (upD di c) (some ((di, li), none)) h (crd_duties (di, li) hh))
      ((amount_cell A (upD di c) (some ((di, li), none)) h 0).trans (show cellAmount (some ((di, li), none)) = (1#32).toNat from rfl)) (cl di li h) O' hO)
    $$ [HO Ht Hr Hs Hrr]
  · isplitr; · iexact HI
    isplitl [HO]; · iexact HO
    isplitl [Ht]; · iexact Ht
    isplitl [Hs Hrr]
    · have hp : (Rd A).payload ((upD di c : Thread nD τ), SemLoc.reg (creditSem di li)) h 0 = crdPay (F := F) (upD di c) di li h :=
        payload_cell A (upD di c) (some ((di, li), none)) h 0
      rw [hp]; unfold crdPay; rw [dn_up]
      isplitl [Hs]; · iexact Hs
      iexact Hrr
    · iexact Hr
  iintro HO
  iapply (WP_ret c)
  iexists _; iexact HO

/-- A hop's send, from half of this hop's slot into the neighbour's free slot. -/
theorem send_wp (c : Dev nD) (di li : Fin 2) {h : ℕ} (hh : h < 14) {O O' : CellTallies nD τ sig ℕ} (hO : O = O' + owSend c di li h) :
    iprop(ctx A K ∗ owesW c O ∗ slotAt c di li (par h) fullShare.left (X A di li h c) ∗ freeSlot (F := F) (dnD di c) di li (par (h + 1))
        ∗ reached ER (crdC c di li) h
        ∗ dutyTok ER (dmaC .snd c di li (par h)) (h / 2) 0 ∗ reached ER (dmaC .snd c di li (par h)) (h / 2)
        ∗ dutyTok ER (dmaC .rcv (dnD di c) di li (par (h + 1))) (h / 2) 0 ∗ reached ER (dmaC .rcv (dnD di c) di li (par (h + 1))) (h / 2))
      ⊢ WP c (F := F) (sendProg di li c h) fun _ => iprop(owesW c O' ∗ cred (tallyAt (dmaC .snd c di li (par h)) 0 N)) := by
  unfold owesW freeSlot slotAt owns
  iintro ⟨#Hc, ⟨%W, HO⟩, ⟨%fs, %hfs, Hs⟩, ⟨%Y, %fd, %hfd, Hd⟩, Hrc, Ht, Hr, Ht', Hr'⟩
  ihave #HI := (ctx_inv A K c (some ((di, li), some (.snd, par h)))) $$ Hc
  ihave #HI' := (ctx_inv A K (dnD di c) (some ((di, li), some (.rcv, par (h + 1))))) $$ Hc
  iapply (Rounds.wp_send_pointsTo_with 𝒱₀ ER (Rd A) (c : Thread nD τ) none (c' := (dnD di c : Thread nD τ))
      (sS := .dma (sendSem di li (par h))) (sem := .dma (recvSem di li (par (h + 1))))
      (src := slot di li (par h)) (dst := slot di li (par (h + 1))) (q := fullShare.left) (fs := fs) (fd := fd) (W := W)
      (F := (reached ER (crdC c di li) h : sProp 𝕄))
      (κ₁ := K (c, some ((di, li), some (.snd, par h)))) (κ₂ := K (dnD di c, some ((di, li), some (.rcv, par (h + 1)))))
      (r₁ := h / 2) (r₂ := h / 2) (d₁ := 0) (d₂ := 0)
      (duty_mem A c (some ((di, li), some (.snd, par h))) _ (snd_duties (di, li) hh _))
      (duty_mem A (dnD di c) (some ((di, li), some (.rcv, par (h + 1)))) _ (rcv_duties (di, li) hh _))
      (rl di li h) 0 N (slot_credit di li _)
      (amount_cell A c (some ((di, li), some (.snd, par h))) (h / 2) 0) (amount_cell A (dnD di c) (some ((di, li), some (.rcv, par (h + 1)))) (h / 2) 0)
      O' hO
      (of_pay A (c := c) (x := (some ((di, li), some (.snd, par h)))) <| by
        rw [snd_pay]
        unfold sndPay slotAt owns
        iintro H; iexists fs; isplitr
        · ipureintro; exact hfs
        · iexact H)
      (of_pay A (c := (dnD di c)) (x := (some ((di, li), some (.rcv, par (h + 1))))) <| by
        rw [rcv_pay]
        unfold rcvPay slotAt owns
        rw [up_dn]
        iintro ⟨H, Hr⟩
        isplitl [H]
        · iexists (slot di li (par (h + 1))).view.write (Elt F) fd ((slot di li (par h)).view.read (Elt F) fs) Finset.univ; isplitr
          · ipureintro; exact (View.read_write_univ _ _).trans hfs
          · iexact H
        · iexact Hr))
    $$ [HO Hs Hd Hrc Ht Hr Ht' Hr']
  · isplitr; · iexact HI
    isplitr; · iexact HI'
    isplitl [Hs]; · iexact Hs
    isplitl [Hd Hrc]
    · isplitl [Hd]; · iexact Hd
      iexact Hrc
    isplitl [HO]; · iexact HO
    isplitl [Ht]; · iexact Ht
    isplitl [Hr]; · iexact Hr
    isplitl [Ht']; · iexact Ht'
    iexact Hr'
  iintro ⟨Hcr, HO⟩
  iapply (WP_ret c)
  isplitl [HO]; · iexists _; iexact HO
  iexact Hcr

/-- A copy into the result, from half of a slot. -/
theorem copy_wp (c : Dev nD) (di li : Fin 2) (j : Fin 8) :
    iprop(ctx A K ∗ slotAt c di li (par (j.val + 7)) fullShare.right (X A di li (j.val + 7) c) ∗ (∃ Y, blkAt (F := F) c di j li Y)
        ∗ dutyTok ER (dmaC .cpy c di li (par j.val)) (j.val / 2) 0 ∗ reached ER (dmaC .cpy c di li (par j.val)) (j.val / 2))
      ⊢ WP c (F := F) (copyProg di li c j) fun _ => cred (tallyAt (dmaC .cpy c di li (par j.val)) 0 N) := by
  unfold copyProg
  unfold slotAt blkAt owns
  iintro ⟨#Hc, ⟨%fs, %hfs, Hs⟩, ⟨%Y, %fd, %hfd, Hd⟩, Ht, Hr⟩
  ihave #HI := (ctx_inv A K c (some ((di, li), some (.cpy, par j.val)))) $$ Hc
  iapply (Rounds.wp_copy_pointsTo 𝒱₀ ER (Rd A) (c : Thread nD τ) none (sem := .dma (copySem di li (par j.val)))
      (src := slot di li (par (j.val + 7))) (dst := oBlk di c j li) (q := fullShare.right) (fs := fs) (fd := fd)
      (κ := K (c, some ((di, li), some (.cpy, par j.val)))) (r := j.val / 2) (d := 0)
      (duty_mem A c (some ((di, li), some (.cpy, par j.val))) _ (cpy_duties (di, li) j.isLt _))
      0 N (oBlk_credit di c j li)
      (amount_cell A c (some ((di, li), some (.cpy, par j.val))) (j.val / 2) 0)
      (of_pay A (c := c) (x := (some ((di, li), some (.cpy, par j.val)))) <| by
        rw [cpy_pay]
        unfold cpyPay slotAt blkAt owns
        rw [jj_val]
        iintro ⟨H, H'⟩
        isplitl [H]
        · iexists (oBlk di c j li).view.write (Elt F) fd ((slot di li (par (j.val + 7))).view.read (Elt F) fs) Finset.univ; isplitr
          · ipureintro; exact (View.read_write_univ _ _).trans hfs
          · iexact H
        · iexists fs; isplitr
          · ipureintro; exact hfs
          · iexact H'))
    $$ [Hs Hd Ht Hr]
  · isplitr; · iexact HI
    isplitl [Hs]; · iexact Hs
    isplitl [Hd]; · iexact Hd
    isplitl [Ht]; · iexact Ht
    iexact Hr
  iintro Hcr
  iapply (WP_ret c)
  iexact Hcr

/-! ## Loads and stores -/

theorem access_set (di li s : Fin 2) : ((comm di li).access (slotRect s)).set = (slot di li s).view.set := (View.set_reshape _ _).symm

theorem slot_read (di li s : Fin 2) (f : (comm di li).view.ty.Contents (Elt F)) :
    (slot di li s).view.read (Elt F) f = shapeCast S256x4096 (((comm di li).access (slotRect s)).read (Elt F) f) shapeCasts_S1x256x4096_S256x4096 := rfl

theorem stored_read (di li s : Fin 2) (f : (comm di li).view.ty.Contents (Elt F)) (v : FVec F S256x4096 .bf16) :
    (slot di li s).view.read (Elt F) (((comm di li).access (slotRect s)).write (Elt F) f (lift v) Finset.univ) = v := by
  rw [slot_read, View.read_write_univ]; exact shapeCast_shapeCast v _ _

/-- A slot is stored. -/
theorem store_wp (c : Dev nD) (di li s : Fin 2) (v : FVec F S256x4096 .bf16) :
    freeSlot (F := F) c di li s ⊢ WP c (F := F) (storeProg di li s (lift v)) fun _ => slotAt c di li s fullShare v := by
  unfold freeSlot slotAt owns storeProg
  iintro ⟨%Y, %f, %hf, H⟩
  iapply (wp_load_rect 𝒱₀ (c : Thread nD τ) none Set.univ (m := comm di li) (r := slotRect s) (S := (slot di li s).view.set)
    (access_set di li s).subset) $$ H
  iintro H
  iapply (wp_store 𝒱₀ (c : Thread nD τ) none Set.univ (m := comm di li) (r := slotRect s) (Mk := Finset.univ) (S := (slot di li s).view.set)
    (access_set di li s).subset) $$ H
  iintro H
  iapply (WP_ret c)
  iexists ((comm di li).access (slotRect s)).write (Elt F) f (lift v) Finset.univ; isplitr
  · ipureintro; exact stored_read di li s f v
  · iexact H

/-- The device's partial product is added to a slot. -/
theorem acc_wp (c : Dev nD) (di li s : Fin 2) (Y : FVec F S256x4096 .bf16) (p : FVec F S512x4096 .bf16) :
    slotAt c di li s fullShare Y ⊢ WP c (F := F) (accProg di li s p) fun _ => slotAt c di li s fullShare (addf Y (half li p)) := by
  unfold accProg
  unfold slotAt owns
  iintro ⟨%f, %hf, H⟩
  iapply (wp_load_rect 𝒱₀ (c : Thread nD τ) none Set.univ (m := comm di li) (r := slotRect s) (S := (slot di li s).view.set)
    (access_set di li s).subset) $$ H
  iintro H
  have hs := store_wp (F := F) c di li s (addf Y (half li p))
  have ha : acc li p (((comm di li).access (slotRect s)).read (Elt F) f) = lift (addf Y (half li p)) := by rw [← hf]; rfl
  have hp : (Prog.ret (((comm di li).access (slotRect s)).read (Elt F) f) : TcProg F _).bind (fun v => storeProg di li s (acc li p v))
      = storeProg di li s (lift (addf Y (half li p))) := congrArg (storeProg di li s) ha
  rw [hp]
  unfold slotAt owns at hs
  iapply hs
  unfold freeSlot slotAt owns
  iexists Y, f
  isplitr
  · ipureintro; exact hf
  · iexact H

/-- The two operands as staged. -/
def staged (c : Dev nD) : sProp 𝕄 :=
  iprop((((c : Thread nD τ).loc cc0_stg0_0) ↦{fullShare} A.x c) ∗ (((c : Thread nD τ).loc cc0_stg1_0) ↦{fullShare} A.w c))

theorem part0_wp (c : Dev nD) (di : Fin 2) : staged A c ⊢ WP c (F := F) (part0Prog di c) fun x => iprop(⌜x = P0 A di c⌝ ∗ staged A c) := by
  unfold staged part0Prog
  iintro ⟨Hx, Hw⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (WP_ret c)
  isplitr; · ipureintro; rfl
  isplitl [Hx]; · iexact Hx
  iexact Hw

theorem part_wp (c : Dev nD) (di : Fin 2) (h : Fin 7) : staged A c ⊢ WP c (F := F) (partProg di c h) fun x => iprop(⌜x = P A di c h⌝ ∗ staged A c) := by
  unfold staged partProg
  iintro ⟨Hx, Hw⟩
  iapply (wp_load 𝒱₀ (c : Thread nD τ) none Set.univ (m := xM) (Finset.subset_univ _)) $$ Hx; iintro Hx
  iapply (wp_load 𝒱₀ (c : Thread nD τ) none Set.univ (m := wM) (Finset.subset_univ _)) $$ Hw; iintro Hw
  iapply (WP_ret c)
  isplitr; · ipureintro; rfl
  isplitl [Hx]; · iexact Hx
  iexact Hw

end Cert.KernelIdeal.Rings
-- ==== Proof.Steps.lean ====
module

public import proofs.«01_k».proof.Proof.Ops
public import Idealize.ShloMosaic.Lib.MemrefSat

/-!
# One hop of one ring

What a device holds of a ring when a hop begins, and that each kind of hop leaves what the next one
begins with.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (A : Args F) (K : Dev nD × Cell → ℕ)

theorem par_next (h : ℕ) : par (h + 1 + 1) = par h := par_add_two h
theorem half_next (h : ℕ) : (h + 1 + 1) / 2 = h / 2 + 1 := by omega

/-! ## What is held -/

/-- The rounds of the arrivals' and the sends' cells when hop `h` begins. -/
def posAt (c : Dev nD) (di li : Fin 2) (h : ℕ) : sProp 𝕄 :=
  iprop(atPos ER (dmaC .rcv c di li (par (h + 1))) (h / 2) ∅ 0 ∗ atPos ER (dmaC .rcv c di li (par h)) ((h + 1) / 2) ∅ 0
    ∗ atPos ER (dmaC .snd c di li (par h)) (h / 2) ∅ 0 ∗ atPos ER (dmaC .snd c di li (par (h + 1))) ((h + 1) / 2) ∅ 0)

/-- The rounds that the next send of a ring and the credit for this hop's slot refer to. -/
def knows (c : Dev nD) (di li : Fin 2) (h : ℕ) : sProp 𝕄 :=
  iprop(reached ER (dmaC .snd c di li (par (h + 1))) ((h + 1) / 2) ∗ reached ER (dmaC .rcv c di li (par h)) ((h + 1) / 2))

instance knows_persistent (c : Dev nD) (di li : Fin 2) (h : ℕ) : BI.Persistent (knows (F := F) c di li h) := by unfold knows; infer_instance

/-- What a send of a ring pays. -/
def sendToks (c : Dev nD) (di li : Fin 2) (h : ℕ) : sProp 𝕄 :=
  iprop(dutyTok ER (dmaC .snd c di li (par h)) (h / 2) 0 ∗ dutyTok ER (dmaC .rcv (dnD di c) di li (par (h + 1))) (h / 2) 0)

/-- What a hop will have arrive. -/
abbrev rcvCred (c : Dev nD) (di li : Fin 2) (h : ℕ) : sProp 𝕄 := cred (tallyAt (dmaC .rcv c di li (par (h + 1))) (rl di li h) N)

/-- What hop `h` uses up: its arrival, the two sides of its credits, and the next send's duties. -/
def hopRes (c : Dev nD) (di li : Fin 2) (h : ℕ) : sProp 𝕄 :=
  iprop(rcvCred c di li h ∗ dutyTok ER (crdC (upD di c) di li) h 0 ∗ cred (tallyAt (crdC c di li) (cl di li h) 1) ∗ sendToks c di li (h + 1))

def stock (c : Dev nD) (di li : Fin 2) (h : ℕ) : sProp 𝕄 := bigSep (Finset.Ico h 13) (hopRes c di li)

theorem stock_peel (c : Dev nD) (di li : Fin 2) {h : ℕ} (hh : h < 13) :
    (stock c di li h : sProp 𝕄) = iprop(hopRes c di li h ∗ stock c di li (h + 1)) := by
  unfold stock; rw [Ico_peel hh]; exact bigSep_insert (notMem_Ico_succ _ _)

/-- A block of the result not yet written, with the duty of its copy. -/
def cpyRes (c : Dev nD) (di li : Fin 2) (j : ℕ) : sProp 𝕄 :=
  iprop(dutyTok ER (dmaC .cpy c di li (par j)) (j / 2) 0 ∗ ∃ Y, blkAt (F := F) c di (jj j) li Y)

def cpyStock (c : Dev nD) (di li : Fin 2) (j : ℕ) : sProp 𝕄 := bigSep (Finset.Ico j 8) (cpyRes c di li)

theorem cpyStock_peel (c : Dev nD) (di li : Fin 2) {j : ℕ} (hj : j < 8) :
    (cpyStock c di li j : sProp 𝕄) = iprop(cpyRes c di li j ∗ cpyStock c di li (j + 1)) := by
  unfold cpyStock; rw [Ico_peel hj]; exact bigSep_insert (notMem_Ico_succ _ _)

/-- The blocks already written. -/
def done (c : Dev nD) (di li : Fin 2) (j : ℕ) : sProp 𝕄 :=
  bigSep (Finset.range j) fun j => blkAt c di (jj j) li (X A di li (j + 7) c)

theorem done_succ (c : Dev nD) (di li : Fin 2) (j : ℕ) :
    done A c di li (j + 1) = iprop(blkAt c di (jj j) li (X A di li (j + 7) c) ∗ done A c di li j) := by
  unfold done; rw [Finset.range_add_one]; exact bigSep_insert Finset.notMem_range_self

/-- The rounds of the copies' cells when copy `j` is running. -/
def cpos (c : Dev nD) (di li : Fin 2) (j : ℕ) : sProp 𝕄 :=
  iprop(atPos ER (dmaC .cpy c di li (par j)) (j / 2) ∅ 0 ∗ atPos ER (dmaC .cpy c di li (par (j + 1))) ((j + 1) / 2) ∅ 0
    ∗ reached ER (dmaC .cpy c di li (par (j + 1))) ((j + 1) / 2))

/-- What every hop begins with: its send is running. -/
def base (c : Dev nD) (di li : Fin 2) (h : ℕ) : sProp 𝕄 :=
  iprop(posAt c di li h ∗ knows c di li h ∗ atPos ER (crdC c di li) h ∅ 0 ∗ cred (tallyAt (dmaC .snd c di li (par h)) 0 N)
    ∗ stock c di li h ∗ rcvCred c di li 13)

/-- A hop of the reduction begins: no copy has started. -/
def RA (c : Dev nD) (di li : Fin 2) (h : ℕ) : sProp 𝕄 :=
  iprop(base c di li h ∗ slotAt c di li (par h) fullShare.right (X A di li h c)
    ∗ atPos ER (dmaC .cpy c di li (par 0)) 0 ∅ 0 ∗ atPos ER (dmaC .cpy c di li (par 1)) 0 ∅ 0 ∗ cpyStock c di li 0)

/-- Hop `7 + j` begins: copy `j` is running. -/
def RC (c : Dev nD) (di li : Fin 2) (j : ℕ) : sProp 𝕄 :=
  iprop(base c di li (j + 7) ∗ cpos c di li j ∗ cred (tallyAt (dmaC .cpy c di li (par j)) 0 N) ∗ cpyStock c di li (j + 1) ∗ done A c di li j)

/-- After the last hop: the last copy is running. -/
def RE (c : Dev nD) (di li : Fin 2) : sProp 𝕄 :=
  iprop(posAt c di li 14 ∗ atPos ER (crdC c di li) 13 ∅ 0 ∗ cpos c di li 7 ∗ cred (tallyAt (dmaC .cpy c di li (par 7)) 0 N) ∗ done A c di li 7
    ∗ freeSlot (F := F) c di li 1 ∗ slotAt c di li 0 fullShare.left (X A di li 14 c))

/-- A ring is over. -/
def RF (c : Dev nD) (di li : Fin 2) : sProp 𝕄 :=
  iprop(posAt c di li 14 ∗ atPos ER (crdC c di li) 13 ∅ 0
    ∗ atPos ER (dmaC .cpy c di li 0) 4 ∅ 0 ∗ atPos ER (dmaC .cpy c di li 1) 4 ∅ 0 ∗ done A c di li 8
    ∗ freeSlot (F := F) c di li 1 ∗ freeSlot (F := F) c di li 0)

/-! ## Slots -/

theorem slot_halves (c : Dev nD) (di li s : Fin 2) (Y : FVec F S256x4096 .bf16) :
    (slotAt c di li s fullShare Y : sProp 𝕄) ⊢ iprop(slotAt c di li s fullShare.left Y ∗ slotAt c di li s fullShare.right Y) := by
  iintro H
  ihave H' := (owns_halves (c : Thread nD τ) (slot di li s) fullShare Y).1 $$ H
  iexact H'

theorem slot_free (c : Dev nD) (di li s : Fin 2) (Y : FVec F S256x4096 .bf16) :
    iprop(slotAt c di li s fullShare.left Y ∗ slotAt c di li s fullShare.right Y) ⊢ (freeSlot (F := F) c di li s : sProp 𝕄) := by
  iintro H
  ihave H' := (owns_halves (c : Thread nD τ) (slot di li s) fullShare Y).2 $$ H
  unfold freeSlot; iexists Y; iexact H'

/-! ## The two ends of a hop -/

/-- A hop's arrival and the end of its send. -/
theorem arrive_wp (c : Dev nD) (di li : Fin 2) {h : ℕ} (hh : h < 14) {O : CellTallies nD τ sig ℕ} (hO : Above O (rl di li h)) (hO' : Above O 0) :
    iprop(ctx A K ∗ owesW c O ∗ posAt c di li h ∗ rcvCred c di li h ∗ cred (tallyAt (dmaC .snd c di li (par h)) 0 N))
      ⊢ WP c (F := F) (arriveProg di li h) fun _ => iprop(owesW c O ∗ posAt c di li (h + 1) ∗ knows c di li (h + 1)
          ∗ rcvPay A c di li h ∗ sndPay A c di li h) := by
  unfold posAt knows arriveProg
  rw [par_next, half_next]
  iintro ⟨#Hc, HO, ⟨Hr, Hr', Hs, Hs'⟩, Hcr, Hcs⟩
  iapply (WP_seq c (recv_wp A K c di li hh hO)) $$ [HO Hr Hcr]
  · isplitr; · iexact Hc
    isplitl [Hcr]; · iexact Hcr
    isplitl [HO]; · iexact HO
    iexact Hr
  iintro ⟨HO, Hr, Hkr, Hp⟩
  iapply (WP_last c (sent_wp A K c di li hh hO')) $$ [HO Hs Hcs]
  · isplitr; · iexact Hc
    isplitl [Hcs]; · iexact Hcs
    isplitl [HO]; · iexact HO
    iexact Hs
  iintro ⟨HO, Hs, Hks, Hp'⟩
  isplitl [HO]; · iexact HO
  isplitl [Hr Hr' Hs Hs']
  · isplitl [Hr']; · iexact Hr'
    isplitl [Hr]; · iexact Hr
    isplitl [Hs']; · iexact Hs'
    iexact Hs
  isplitl [Hkr Hks]
  · isplitl [Hks]; · iexact Hks
    iexact Hkr
  isplitl [Hp]; · iexact Hp
  iexact Hp'

/-- The neighbour's free slot, and the next send into it. -/
theorem forward_wp (c : Dev nD) (di li : Fin 2) {h : ℕ} (hh : h < 13) {O O' : CellTallies nD τ sig ℕ} (hO : Above O (cl di li h))
    (hO' : O = O' + owSend c di li (h + 1)) :
    iprop(ctx A K ∗ owesW c O ∗ atPos ER (crdC c di li) h ∅ 0 ∗ cred (tallyAt (crdC c di li) (cl di li h) 1)
        ∗ slotAt c di li (par (h + 1)) fullShare.left (X A di li (h + 1) c) ∗ sendToks c di li (h + 1)
        ∗ reached ER (dmaC .snd c di li (par (h + 1))) ((h + 1) / 2))
      ⊢ WP c (F := F) (forwardProg di li c h) fun _ => iprop(owesW c O' ∗ atPos ER (crdC c di li) (h + 1) ∅ 0
          ∗ cred (tallyAt (dmaC .snd c di li (par (h + 1))) 0 N)) := by
  unfold sendToks forwardProg
  iintro ⟨#Hc, HO, Hat, Hcr, Hs, ⟨Ht, Ht'⟩, Hk⟩
  iapply (WP_seq c (credited_wp A K c di li hh hO)) $$ [HO Hat Hcr]
  · isplitr; · iexact Hc
    isplitl [Hcr]; · iexact Hcr
    isplitl [HO]; · iexact HO
    iexact Hat
  unfold crdPay
  iintro ⟨HO, Hat, Hkc, Hf, Hkr⟩
  have hs := send_wp A K c di li (show h + 1 < 14 by omega) hO'
  rw [par_next] at hs ⊢
  iapply (WP_last c hs) $$ [HO Hs Hf Hkc Ht Ht' Hk Hkr]
  · isplitr; · iexact Hc
    isplitl [HO]; · iexact HO
    isplitl [Hs]; · iexact Hs
    isplitl [Hf]; · iexact Hf
    isplitl [Hkc]; · iexact Hkc
    isplitl [Ht]; · iexact Ht
    isplitl [Hk]; · iexact Hk
    isplitl [Ht']; · iexact Ht'
    iexact Hkr
  iintro ⟨HO, Hcs⟩
  isplitl [HO]; · iexact HO
  isplitl [Hat]; · iexact Hat
  iexact Hcs

/-! ## The hops -/

/-- A credit of a ring whose slot is whole again. -/
theorem release_wp (c : Dev nD) (di li : Fin 2) {h : ℕ} (hh : h < 13) {O O' : CellTallies nD τ sig ℕ} (hO : O = O' + owCredit c di li h)
    (Y : FVec F S256x4096 .bf16) :
    iprop(ctx A K ∗ owesW c O ∗ dutyTok ER (crdC (upD di c) di li) h 0 ∗ reached ER (crdC (upD di c) di li) h
        ∗ slotAt c di li (par h) fullShare.left Y ∗ slotAt c di li (par h) fullShare.right Y ∗ knows c di li h)
      ⊢ WP c (F := F) (creditProg di li c) fun _ => owesW c O' := by
  unfold knows
  iintro ⟨#Hc, HO, Ht, Hr, Hl, Hr', ⟨-, Hk⟩⟩
  ihave Hf := (slot_free (F := F) c di li (par h) Y) $$ [Hl Hr']
  · isplitl [Hl]; · iexact Hl
    iexact Hr'
  iapply (credit_wp A K c di li hh hO)
  isplitr; · iexact Hc
  isplitl [HO]; · iexact HO
  isplitl [Ht]; · iexact Ht
  isplitl [Hr]; · iexact Hr
  isplitl [Hf]; · iexact Hf
  iexact Hk

theorem step_above (c : Dev nD) (di li : Fin 2) (h : ℕ) : Above (O c (stepNo di li h)) (rl di li h) :=
  O_above c (by show 8 * h + 2 * (2 * li.val + di.val) + 3 < 2 * (4 * h + (2 * li.val + di.val)) + 10; omega)

theorem step_above' (c : Dev nD) (di li : Fin 2) {h : ℕ} (hh : h < 13) :
    Above (O c (stepNo di li h + 1) + owSend c di li (h + 1)) (cl di li h) :=
  (O_above c (by show 8 * h + 2 * (2 * li.val + di.val) + 10 < 2 * (4 * h + (2 * li.val + di.val) + 1) + 10; omega)).add
    (Above.tally (by show 8 * h + 2 * (2 * li.val + di.val) + 10 < 8 * (h + 1) + 2 * (2 * li.val + di.val) + 3; omega)
      (by show 8 * (h + 1) + 2 * (2 * li.val + di.val) + 3 < 200; omega))

theorem O_above_zero (c : Dev nD) (n : ℕ) : Above (O c n) 0 := O_above c (by omega)

/-- A hop of the reduction. -/
theorem stepA_wp (c : Dev nD) (di li : Fin 2) {h : ℕ} (hh : h < 6) :
    iprop(ctx A K ∗ owesW c (O c (stepNo di li h)) ∗ RA A c di li h)
      ⊢ WP c (F := F) (stepA di li c h (P A di c ⟨h, Nat.lt_succ_of_lt hh⟩)) fun _ => iprop(owesW c (O c (stepNo di li h + 1)) ∗ RA A c di li (h + 1)) := by
  have hs := O_step c di li (show h < 13 by omega)
  unfold RA base stepA
  rw [stock_peel c di li (show h < 13 by omega)]
  unfold hopRes
  iintro ⟨#Hc, HO, ⟨⟨Hpos, #Hk, Hat, Hcs, ⟨⟨Hcr, Ht, Hcc, Hst⟩, Hstk⟩, Hl⟩, Hsr, Hcp, Hcp', Hcst⟩⟩
  iapply (WP_seq c (arrive_wp A K c di li (show h < 14 by omega) (step_above c di li h) (O_above_zero c _))) $$ [HO Hpos Hcr Hcs]
  · isplitr; · iexact Hc
    isplitl [HO]; · iexact HO
    isplitl [Hpos]; · iexact Hpos
    isplitl [Hcr]; · iexact Hcr
    iexact Hcs
  unfold rcvPay sndPay
  iintro ⟨HO, Hpos, #Hk', ⟨Hrs, Hrc⟩, Hsl⟩
  iapply (WP_seq c (release_wp A K c di li (show h < 13 by omega) hs (X A di li h c))) $$ [HO Ht Hrc Hsl Hsr]
  · isplitr; · iexact Hc
    isplitl [HO]; · iexact HO
    isplitl [Ht]; · iexact Ht
    isplitl [Hrc]; · iexact Hrc
    isplitl [Hsl]; · iexact Hsl
    isplitl [Hsr]; · iexact Hsr
    iexact Hk
  iintro HO
  iapply (WP_seq c (acc_wp c di li (par (h + 1)) (X A di li h (upD di c)) (P A di c ⟨h, Nat.lt_succ_of_lt hh⟩))) $$ [Hrs]
  · iexact Hrs
  rw [← X_red A di li c (Nat.lt_succ_of_lt hh)]
  iintro Hs
  ihave Hs' := (slot_halves c di li _ _) $$ Hs
  icases Hs' with ⟨Hsl, Hsr⟩
  iapply (WP_last c (forward_wp A K c di li (show h < 13 by omega) (step_above' c di li (show h < 13 by omega)) rfl)) $$ [HO Hat Hcc Hsl Hst]
  · isplitr; · iexact Hc
    isplitl [HO]; · iexact HO
    isplitl [Hat]; · iexact Hat
    isplitl [Hcc]; · iexact Hcc
    isplitl [Hsl]; · iexact Hsl
    isplitl [Hst]; · iexact Hst
    unfold knows; icases Hk with ⟨Hk1, -⟩; iexact Hk1
  iintro ⟨HO, Hat, Hcs⟩
  isplitl [HO]; · iexact HO
  isplitl [Hpos Hat Hcs Hstk Hl]
  · isplitl [Hpos]; · iexact Hpos
    isplitr; · iexact Hk'
    isplitl [Hat]; · iexact Hat
    isplitl [Hcs]; · iexact Hcs
    isplitl [Hstk]; · iexact Hstk
    iexact Hl
  isplitl [Hsr]; · iexact Hsr
  isplitl [Hcp]; · iexact Hcp
  isplitl [Hcp']; · iexact Hcp'
  iexact Hcst

/-- The last hop of the reduction. -/
theorem stepB_wp (c : Dev nD) (di li : Fin 2) :
    iprop(ctx A K ∗ owesW c (O c (stepNo di li 6)) ∗ RA A c di li 6)
      ⊢ WP c (F := F) (stepB di li c (P A di c 6)) fun _ => iprop(owesW c (O c (stepNo di li 6 + 1)) ∗ RC A c di li 0) := by
  have hs := O_step c di li (show 6 < 13 by omega)
  unfold RA RC base stepB
  rw [stock_peel c di li (show 6 < 13 by omega), cpyStock_peel c di li (show 0 < 8 by omega)]
  unfold hopRes cpyRes
  iintro ⟨#Hc, HO, ⟨⟨Hpos, #Hk, Hat, Hcs, ⟨⟨Hcr, Ht, Hcc, Hst⟩, Hstk⟩, Hl⟩, Hsr, Hcp, Hcp', ⟨⟨Htc, Hb⟩, Hcst⟩⟩⟩
  iapply (WP_seq c (arrive_wp A K c di li (show 6 < 14 by omega) (step_above c di li 6) (O_above_zero c _))) $$ [HO Hpos Hcr Hcs]
  · isplitr; · iexact Hc
    isplitl [HO]; · iexact HO
    isplitl [Hpos]; · iexact Hpos
    isplitl [Hcr]; · iexact Hcr
    iexact Hcs
  unfold rcvPay sndPay
  iintro ⟨HO, Hpos, #Hk', ⟨Hrs, Hrc⟩, Hsl⟩
  iapply (WP_seq c (release_wp A K c di li (show 6 < 13 by omega) hs (X A di li 6 c))) $$ [HO Ht Hrc Hsl Hsr]
  · isplitr; · iexact Hc
    isplitl [HO]; · iexact HO
    isplitl [Ht]; · iexact Ht
    isplitl [Hrc]; · iexact Hrc
    isplitl [Hsl]; · iexact Hsl
    isplitl [Hsr]; · iexact Hsr
    iexact Hk
  iintro HO
  iapply (WP_seq c (acc_wp c di li (par 7) (X A di li 6 (upD di c)) (P A di c 6))) $$ [Hrs]
  · iexact Hrs
  have hx : addf (X A di li 6 (upD di c)) (half li (P A di c 6)) = X A di li 7 c := (X_red A di li c (show 6 < 7 by omega)).symm
  rw [hx]
  iintro Hs
  ihave Hs' := (slot_halves c di li _ _) $$ Hs
  icases Hs' with ⟨Hsl, Hsr⟩
  ihave #Hk0 := (ctx_reached A K c (some ((di, li), some (.cpy, par 0)))) $$ Hc
  ihave #Hk1 := (ctx_reached A K c (some ((di, li), some (.cpy, par 1)))) $$ Hc
  iapply (WP_seq c (copy_wp A K c di li 0)) $$ [Hsr Hb Htc]
  · isplitr; · iexact Hc
    isplitl [Hsr]; · iexact Hsr
    isplitl [Hb]; · iexact Hb
    isplitl [Htc]; · iexact Htc
    iexact Hk0
  iintro Hcy
  iapply (WP_last c (forward_wp A K c di li (show 6 < 13 by omega) (step_above' c di li (show 6 < 13 by omega)) rfl)) $$ [HO Hat Hcc Hsl Hst]
  · isplitr; · iexact Hc
    isplitl [HO]; · iexact HO
    isplitl [Hat]; · iexact Hat
    isplitl [Hcc]; · iexact Hcc
    isplitl [Hsl]; · iexact Hsl
    isplitl [Hst]; · iexact Hst
    unfold knows; icases Hk with ⟨Hk2, -⟩; iexact Hk2
  iintro ⟨HO, Hat, Hcs⟩
  isplitl [HO]; · iexact HO
  isplitl [Hpos Hat Hcs Hstk Hl]
  · isplitl [Hpos]; · iexact Hpos
    isplitr; · iexact Hk'
    isplitl [Hat]; · iexact Hat
    isplitl [Hcs]; · iexact Hcs
    isplitl [Hstk]; · iexact Hstk
    iexact Hl
  isplitl [Hcp Hcp']
  · unfold cpos
    isplitl [Hcp]; · iexact Hcp
    isplitl [Hcp']; · iexact Hcp'
    iexact Hk1
  isplitl [Hcy]; · iexact Hcy
  isplitl [Hcst]; · iexact Hcst
  unfold done; rw [Finset.range_zero, bigSep_empty]; iempintro

/-- The end of a copy makes room for the next one. -/
theorem copied_next (c : Dev nD) (di li : Fin 2) {j : ℕ} (hj : j < 8) {O : CellTallies nD τ sig ℕ} (hO : Above O 0) :
    iprop(ctx A K ∗ owesW c O ∗ cpos c di li j ∗ cred (tallyAt (dmaC .cpy c di li (par j)) 0 N) ∗ done A c di li j)
      ⊢ WP c (F := F) (copiedProg di li c ⟨j, hj⟩) fun _ => iprop(owesW c O ∗ cpos c di li (j + 1) ∗ done A c di li (j + 1)
          ∗ reached ER (dmaC .cpy c di li (par (j + 1))) ((j + 1) / 2)
          ∗ slotAt c di li (par (j + 7)) fullShare.right (X A di li (j + 7) c)) := by
  unfold cpos
  rw [par_next, half_next, done_succ]
  iintro ⟨#Hc, HO, ⟨Hp, Hp', #Hk⟩, Hcy, Hd⟩
  iapply (WP_last c (copied_wp A K c di li ⟨j, hj⟩ hO)) $$ [HO Hp Hcy]
  · isplitr; · iexact Hc
    isplitl [Hcy]; · iexact Hcy
    isplitl [HO]; · iexact HO
    iexact Hp
  unfold cpyPay
  iintro ⟨HO, Hp, Hk', ⟨Hb, Hs⟩⟩
  isplitl [HO]; · iexact HO
  isplitl [Hp Hp' Hk']
  · isplitl [Hp']; · iexact Hp'
    isplitl [Hp]; · iexact Hp
    iexact Hk'
  isplitl [Hb Hd]
  · isplitl [Hb]; · iexact Hb
    iexact Hd
  isplitr; · iexact Hk
  iexact Hs

/-- A hop of the gathering. -/
theorem stepC_wp (c : Dev nD) (di li : Fin 2) {j : ℕ} (hj : j < 6) (hj' : j < 7) :
    iprop(ctx A K ∗ owesW c (O c (stepNo di li (j + 7))) ∗ RC A c di li j)
      ⊢ WP c (F := F) (stepC di li c j hj') fun _ => iprop(owesW c (O c (stepNo di li (j + 7) + 1)) ∗ RC A c di li (j + 1)) := by
  have hs := O_step c di li (show j + 7 < 13 by omega)
  unfold RC base stepC
  rw [stock_peel c di li (show j + 7 < 13 by omega), cpyStock_peel c di li (show j + 1 < 8 by omega)]
  unfold hopRes cpyRes
  iintro ⟨#Hc, HO, ⟨⟨Hpos, #Hk, Hat, Hcs, ⟨⟨Hcr, Ht, Hcc, Hst⟩, Hstk⟩, Hl⟩, Hcp, Hcy, ⟨⟨Htc, Hb⟩, Hcst⟩, Hd⟩⟩
  iapply (WP_seq c (arrive_wp A K c di li (show j + 7 < 14 by omega) (step_above c di li (j + 7)) (O_above_zero c _))) $$ [HO Hpos Hcr Hcs]
  · isplitr; · iexact Hc
    isplitl [HO]; · iexact HO
    isplitl [Hpos]; · iexact Hpos
    isplitl [Hcr]; · iexact Hcr
    iexact Hcs
  unfold rcvPay sndPay
  rw [← X_gather A di li c (show 7 ≤ j + 7 by omega)]
  iintro ⟨HO, Hpos, #Hk', ⟨Hrs, Hrc⟩, Hsl⟩
  iapply (WP_seq c (copied_next A K c di li (show j < 8 by omega) (O_above_zero c _))) $$ [HO Hcp Hcy Hd]
  · isplitr; · iexact Hc
    isplitl [HO]; · iexact HO
    isplitl [Hcp]; · iexact Hcp
    isplitl [Hcy]; · iexact Hcy
    iexact Hd
  iintro ⟨HO, Hcp, Hd, Hkc, Hsr⟩
  iapply (WP_seq c (release_wp A K c di li (show j + 7 < 13 by omega) hs (X A di li (j + 7) c))) $$ [HO Ht Hrc Hsl Hsr]
  · isplitr; · iexact Hc
    isplitl [HO]; · iexact HO
    isplitl [Ht]; · iexact Ht
    isplitl [Hrc]; · iexact Hrc
    isplitl [Hsl]; · iexact Hsl
    isplitl [Hsr]; · iexact Hsr
    iexact Hk
  iintro HO
  ihave Hs' := (slot_halves c di li _ _) $$ Hrs
  icases Hs' with ⟨Hsl, Hsr⟩
  have hjj : jj (j + 1) = ⟨j + 1, Nat.succ_lt_succ hj'⟩ := jj_val ⟨j + 1, Nat.succ_lt_succ hj'⟩
  rw [hjj]
  have hc := copy_wp A K c di li ⟨j + 1, Nat.succ_lt_succ hj'⟩
  have e1 : j + 1 + 7 = j + 7 + 1 := by omega
  dsimp only at hc
  rw [e1] at hc
  iapply (WP_seq c hc) $$ [Hsr Hb Htc Hkc]
  · isplitr; · iexact Hc
    isplitl [Hsr]; · iexact Hsr
    isplitl [Hb]; · iexact Hb
    isplitl [Htc]; · iexact Htc
    iexact Hkc
  iintro Hcy
  iapply (WP_last c (forward_wp A K c di li (show j + 7 < 13 by omega) (step_above' c di li (show j + 7 < 13 by omega)) rfl)) $$ [HO Hat Hcc Hsl Hst]
  · isplitr; · iexact Hc
    isplitl [HO]; · iexact HO
    isplitl [Hat]; · iexact Hat
    isplitl [Hcc]; · iexact Hcc
    isplitl [Hsl]; · iexact Hsl
    isplitl [Hst]; · iexact Hst
    unfold knows; icases Hk with ⟨Hk2, -⟩; iexact Hk2
  iintro ⟨HO, Hat, Hcs⟩
  rw [e1]
  isplitl [HO]; · iexact HO
  isplitl [Hpos Hat Hcs Hstk Hl]
  · isplitl [Hpos]; · iexact Hpos
    isplitr; · iexact Hk'
    isplitl [Hat]; · iexact Hat
    isplitl [Hcs]; · iexact Hcs
    isplitl [Hstk]; · iexact Hstk
    iexact Hl
  isplitl [Hcp]; · iexact Hcp
  isplitl [Hcy]; · iexact Hcy
  isplitl [Hcst]; · iexact Hcst
  iexact Hd

/-- The last hop. -/
theorem stepD_wp (c : Dev nD) (di li : Fin 2) {O : CellTallies nD τ sig ℕ} (hO : O = 0) :
    iprop(ctx A K ∗ owesW c O ∗ RC A c di li 6) ⊢ WP c (F := F) (stepD di li c) fun _ => iprop(owesW c O ∗ RE A c di li) := by
  subst hO
  unfold RC RE base stepD
  rw [cpyStock_peel c di li (show 6 + 1 < 8 by omega)]
  unfold cpyRes
  iintro ⟨#Hc, HO, ⟨⟨Hpos, -, Hat, Hcs, -, Hl⟩, Hcp, Hcy, ⟨⟨Htc, Hb⟩, -⟩, Hd⟩⟩
  iapply (WP_seq c (arrive_wp A K c di li (show 13 < 14 by omega) (Above.zero _) (Above.zero _))) $$ [HO Hpos Hl Hcs]
  · isplitr; · iexact Hc
    isplitl [HO]; · iexact HO
    isplitl [Hpos]; · iexact Hpos
    isplitl [Hl]; · iexact Hl
    iexact Hcs
  unfold rcvPay sndPay
  rw [← X_gather A di li c (show 7 ≤ 13 by omega)]
  iintro ⟨HO, Hpos, -, ⟨Hrs, -⟩, Hsl⟩
  iapply (WP_seq c (copied_next A K c di li (show 6 < 8 by omega) (Above.zero _))) $$ [HO Hcp Hcy Hd]
  · isplitr; · iexact Hc
    isplitl [HO]; · iexact HO
    isplitl [Hcp]; · iexact Hcp
    isplitl [Hcy]; · iexact Hcy
    iexact Hd
  iintro ⟨HO, Hcp, Hd, Hkc, Hsr⟩
  ihave Hf := (slot_free (F := F) c di li (par 13) (X A di li 13 c)) $$ [Hsl Hsr]
  · isplitl [Hsl]; · iexact Hsl
    iexact Hsr
  ihave Hs' := (slot_halves c di li _ _) $$ Hrs
  icases Hs' with ⟨Hsl, Hsr⟩
  iapply (WP_last c (copy_wp A K c di li 7)) $$ [Hsr Hb Htc Hkc]
  · isplitr; · iexact Hc
    isplitl [Hsr]; · iexact Hsr
    isplitl [Hb]; · iexact Hb
    isplitl [Htc]; · iexact Htc
    iexact Hkc
  iintro Hcy
  isplitl [HO]; · iexact HO
  isplitl [Hpos]; · iexact Hpos
  isplitl [Hat]; · iexact Hat
  isplitl [Hcp]; · iexact Hcp
  isplitl [Hcy]; · iexact Hcy
  isplitl [Hd]; · iexact Hd
  isplitl [Hf]; · iexact Hf
  iexact Hsl

/-- The end of the last copy. -/
theorem stepE_wp (c : Dev nD) (di li : Fin 2) {O : CellTallies nD τ sig ℕ} (hO : O = 0) :
    iprop(ctx A K ∗ owesW c O ∗ RE A c di li) ⊢ WP c (F := F) (copiedProg di li c 7) fun _ => iprop(owesW c O ∗ RF A c di li) := by
  subst hO
  unfold RE RF
  iintro ⟨#Hc, HO, ⟨Hpos, Hat, Hcp, Hcy, Hd, Hf, Hsl⟩⟩
  iapply (WP_last c (copied_next A K c di li (show 7 < 8 by omega) (Above.zero _))) $$ [HO Hcp Hcy Hd]
  · isplitr; · iexact Hc
    isplitl [HO]; · iexact HO
    isplitl [Hcp]; · iexact Hcp
    isplitl [Hcy]; · iexact Hcy
    iexact Hd
  unfold cpos
  iintro ⟨HO, ⟨Hp0, Hp1, -⟩, Hd, -, Hsr⟩
  ihave Hf0 := (slot_free (F := F) c di li (par 14) (X A di li 14 c)) $$ [Hsl Hsr]
  · isplitl [Hsl]; · iexact Hsl
    iexact Hsr
  isplitl [HO]; · iexact HO
  isplitl [Hpos]; · iexact Hpos
  isplitl [Hat]; · iexact Hat
  isplitl [Hp0]; · iexact Hp0
  isplitl [Hp1]; · iexact Hp1
  isplitl [Hd]; · iexact Hd
  isplitl [Hf]; · iexact Hf
  iexact Hf0

end Cert.KernelIdeal.Rings
-- ==== Proof.Run.lean ====
module

public import proofs.«01_k».proof.Proof.Steps

/-!
# The body, from its start to its end

The four rings take their hops in turn; the body is the start, the hops of the reduction, the hops
of the gathering and the ends of the last copies.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (A : Args F) (K : Dev nD × Cell → ℕ)

/-- One resource of each of the four rings, in the order the kernel takes them. -/
def rings (Φ : Fin 2 → Fin 2 → sProp 𝕄) : sProp 𝕄 := iprop(Φ 0 0 ∗ Φ 1 0 ∗ Φ 0 1 ∗ Φ 1 1)

/-- One operation on each ring in turn. -/
theorem four_wp (c : Dev nD) (f : Fin 2 → Fin 2 → TcProg F PUnit) (Φ Ψ : Fin 2 → Fin 2 → sProp 𝕄) (T : ℕ → CellTallies nD τ sig ℕ)
    (h : ∀ di li : Fin 2, iprop(ctx A K ∗ owesW c (T (2 * li.val + di.val)) ∗ Φ di li)
      ⊢ WP c (f di li) fun _ => iprop(owesW c (T (2 * li.val + di.val + 1)) ∗ Ψ di li)) :
    iprop(ctx A K ∗ owesW c (T 0) ∗ rings Φ) ⊢ WP c (four f) fun _ => iprop(owesW c (T 4) ∗ rings Ψ) := by
  unfold rings four
  iintro ⟨#Hc, HO, H00, H10, H01, H11⟩
  iapply (WP_seq c (h 0 0)) $$ [HO H00]
  · isplitr; · iexact Hc
    isplitl [HO]; · iexact HO
    iexact H00
  iintro ⟨HO, H00⟩
  iapply (WP_seq c (h 1 0)) $$ [HO H10]
  · isplitr; · iexact Hc
    isplitl [HO]; · iexact HO
    iexact H10
  iintro ⟨HO, H10⟩
  iapply (WP_seq c (h 0 1)) $$ [HO H01]
  · isplitr; · iexact Hc
    isplitl [HO]; · iexact HO
    iexact H01
  iintro ⟨HO, H01⟩
  iapply (WP_last c (h 1 1)) $$ [HO H11]
  · isplitr; · iexact Hc
    isplitl [HO]; · iexact HO
    iexact H11
  iintro ⟨HO, H11⟩
  isplitl [HO]; · iexact HO
  isplitl [H00]; · iexact H00
  isplitl [H10]; · iexact H10
  isplitl [H01]; · iexact H01
  iexact H11

/-! ## The start -/

/-- A ring at the start of the body, but for its slots. -/
def RI (c : Dev nD) (di li : Fin 2) : sProp 𝕄 :=
  iprop(posAt c di li 0 ∗ atPos ER (crdC c di li) 0 ∅ 0 ∗ sendToks c di li 0 ∗ stock c di li 0 ∗ rcvCred c di li 13
    ∗ atPos ER (dmaC .cpy c di li (par 0)) 0 ∅ 0 ∗ atPos ER (dmaC .cpy c di li (par 1)) 0 ∅ 0 ∗ cpyStock c di li 0)

/-- A ring ready for its first send. -/
def RJ (c : Dev nD) (di li : Fin 2) : sProp 𝕄 :=
  iprop(RI c di li ∗ slotAt c di li (par 0) fullShare (X A di li 0 c) ∗ freeSlot (F := F) (dnD di c) di li (par 1))

/-- A ring's first send. -/
theorem first_wp (c : Dev nD) (di li : Fin 2) {O O' : CellTallies nD τ sig ℕ} (hO : O = O' + owSend c di li 0) :
    iprop(ctx A K ∗ owesW c O ∗ RJ A c di li) ⊢ WP c (F := F) (sendProg di li c 0) fun _ => iprop(owesW c O' ∗ RA A c di li 0) := by
  unfold RJ RI RA base sendToks
  iintro ⟨#Hc, HO, ⟨⟨Hpos, Hat, ⟨Ht, Ht'⟩, Hstk, Hl, Hcp, Hcp', Hcst⟩, Hs, Hf⟩⟩
  ihave #Hk0 := (ctx_reached A K c (some ((di, li), some (.snd, par 0)))) $$ Hc
  ihave #Hk1 := (ctx_reached A K c (some ((di, li), some (.snd, par 1)))) $$ Hc
  ihave #Hk2 := (ctx_reached A K c (some ((di, li), some (.rcv, par 0)))) $$ Hc
  ihave #Hk3 := (ctx_reached A K (dnD di c) (some ((di, li), some (.rcv, par 1)))) $$ Hc
  ihave #Hk4 := (ctx_reached A K c (some ((di, li), none))) $$ Hc
  ihave Hs' := (slot_halves c di li _ _) $$ Hs
  icases Hs' with ⟨Hsl, Hsr⟩
  iapply (WP_last c (send_wp A K c di li (show 0 < 14 by omega) hO)) $$ [HO Hsl Hf Ht Ht']
  · isplitr; · iexact Hc
    isplitl [HO]; · iexact HO
    isplitl [Hsl]; · iexact Hsl
    isplitl [Hf]; · iexact Hf
    isplitr; · iexact Hk4
    isplitl [Ht]; · iexact Ht
    isplitr; · iexact Hk0
    isplitl [Ht']; · iexact Ht'
    iexact Hk3
  iintro ⟨HO, Hcs⟩
  isplitl [HO]; · iexact HO
  isplitl [Hpos Hat Hcs Hstk Hl]
  · isplitl [Hpos]; · iexact Hpos
    isplitr
    · unfold knows
      isplitr; · iexact Hk1
      iexact Hk2
    isplitl [Hat]; · iexact Hat
    isplitl [Hcs]; · iexact Hcs
    isplitl [Hstk]; · iexact Hstk
    iexact Hl
  isplitl [Hsr]; · iexact Hsr
  isplitl [Hcp]; · iexact Hcp
  isplitl [Hcp']; · iexact Hcp'
  iexact Hcst

/-- The signal to a neighbour on the barrier, with the two slots it may send to. -/
theorem signal_wp (c : Dev nD) (di : Fin 2) {O O' : CellTallies nD τ sig ℕ} (hO : O = O' + tallyAt (barC (upD di c)) 2 1) :
    iprop(ctx A K ∗ owesW c O ∗ dutyTok ER (barC (upD di c)) 0 di ∗ freeSlot (F := F) c di 0 1 ∗ freeSlot (F := F) c di 1 1)
      ⊢ WP c (F := F) (semSignalWord (upD di c) barSem 1#32) fun _ => owesW c O' := by
  unfold owesW
  iintro ⟨#Hc, ⟨%W, HO⟩, Ht, Hs, Hs'⟩
  ihave #HI := (ctx_inv A K (upD di c) none) $$ Hc
  ihave #Hr := (ctx_reached A K (upD di c) none) $$ Hc
  have hd : di ∈ (Rd A).duties (barC (upD di c)) 0 := by rw [duties_cell]; exact Finset.mem_univ di
  iapply (Rounds.wp_signal 𝒱₀ ER (Rd A) (c : Thread nD τ) none (dst := (upD di c : Thread nD τ)) (κ := K (upD di c, none)) (r := 0)
      (d := di) hd ((amount_cell A (upD di c) none 0 di).trans (show cellAmount none = (1#32).toNat from rfl)) 2 O' hO)
    $$ [HO Ht Hs Hs']
  · isplitr; · iexact HI
    isplitl [HO]; · iexact HO
    isplitl [Ht]; · iexact Ht
    isplitl [Hs Hs']
    · have hp : (Rd A).payload ((upD di c : Thread nD τ), SemLoc.reg barSem) 0 di = barPay (F := F) (upD di c) di :=
        payload_cell A (upD di c) none 0 di
      rw [hp]; unfold barPay; rw [dn_up]
      isplitl [Hs]; · iexact Hs
      iexact Hs'
    · iexact Hr
  iintro HO
  iapply (WP_ret c)
  iexists _; iexact HO

/-- The wait for both neighbours. -/
theorem barrier_wp (c : Dev nD) {O : CellTallies nD τ sig ℕ} (hO : Above O 2) :
    iprop(ctx A K ∗ cred (tallyAt (barC c) 2 2) ∗ owesW c O ∗ atPos ER (barC c) 0 ∅ 0)
      ⊢ WP c (F := F) (semWaitWord barSem 2#32) fun _ => iprop(owesW c O ∗ atPos ER (barC c) 1 ∅ 0 ∗ barPay (F := F) c 0 ∗ barPay (F := F) c 1) := by
  unfold owesW
  iintro ⟨#Hc, Hcr, ⟨%W, HO⟩, Hat⟩
  ihave #HI := (ctx_inv A K c none) $$ Hc
  ihave Hm := (ctx_mayWait A K c (cellSem none) (n := 2) (by omega) hO) $$ Hc
  iapply (Rounds.wp_wait_rest_token 𝒱₀ ER (Rd A) (c : Thread nD τ) none (κ := K (c, none))
      (wpE_semWait_eq 𝒱₀ (c : Thread nD τ) none Set.univ) (Set.mem_univ _) 2 (O := O) (W := W) (R := 0) (m := 0) (T := ∅)
      (show 0 + (2#32).toNat = (Rd A).expect (barC c) 0 from (show 0 + (2#32).toNat = 2 from rfl).trans (expect_bar A c).symm)) $$ [Hcr HO Hat Hm]
  · isplitr; · iexact HI
    isplitl [Hcr]; · iexact Hcr
    isplitl [HO]; · iexact HO
    isplitl [Hm]; · iexact Hm
    iexact Hat
  iintro ⟨HO, Hat, -, Hp⟩
  have hrest : (bigSep ((Rd A).duties ((c : Thread nD τ), SemLoc.reg barSem) 0 \ ∅)
      fun d => (Rd A).payload ((c : Thread nD τ), SemLoc.reg barSem) 0 d) = iprop(barPay (F := F) c 0 ∗ barPay (F := F) c 1) :=
    rest_bar A c
  ihave Hp' := (Entails.of_eq hrest) $$ Hp
  iapply (WP_ret c)
  isplitl [HO]; · iexists _; iexact HO
  isplitl [Hat]; · iexact Hat
  iexact Hp'

/-- What a device's body begins with. -/
def bodyStart (c : Dev nD) : sProp 𝕄 :=
  iprop(staged A c ∗ owesW c (O0 c) ∗ atPos ER (barC c) 0 ∅ 0 ∗ dutyTok ER (barC (upD 0 c)) 0 0 ∗ dutyTok ER (barC (upD 1 c)) 0 1
    ∗ cred (tallyAt (barC c) 2 2) ∗ rings (RI c) ∗ rings (fun di li => freeSlot (F := F) c di li 0) ∗ rings (fun di li => freeSlot (F := F) c di li 1))

/-- What is owed before each of the first sends. -/
def T0 (c : Dev nD) : ℕ → CellTallies nD τ sig ℕ
  | 0 => O1 c
  | 1 => O c 0 + owSend c 1 1 0 + owSend c 0 1 0 + owSend c 1 0 0
  | 2 => O c 0 + owSend c 1 1 0 + owSend c 0 1 0
  | 3 => O c 0 + owSend c 1 1 0
  | _ => O c 0

theorem T0_step (c : Dev nD) : ∀ di li : Fin 2, T0 c (2 * li.val + di.val) = T0 c (2 * li.val + di.val + 1) + owSend c di li 0
  | 0, 0 => rfl
  | 1, 0 => rfl
  | 0, 1 => rfl
  | 1, 1 => rfl

theorem start_wp (c : Dev nD) :
    iprop(ctx A K ∗ bodyStart A c) ⊢ WP c (F := F) (startProg c) fun _ =>
      iprop(staged A c ∗ atPos ER (barC c) 1 ∅ 0 ∗ owesW c (O c 0) ∗ rings fun di li => RA A c di li 0) := by
  unfold bodyStart startProg
  iintro ⟨#Hc, Hst, HO, Hat, Ht0, Ht1, Hcr, HR, HF, HG⟩
  iapply (WP_val c (part0_wp A c 0)) $$ Hst; iintro Hst
  iapply (WP_val c (part0_wp A c 1)) $$ Hst; iintro Hst
  unfold rings
  icases HF with ⟨F00, F10, F01, F11⟩
  iapply (WP_seq c (store_wp c 0 0 0 (half 0 (P0 A 0 c)))) $$ F00; iintro F00
  iapply (WP_seq c (store_wp c 0 1 0 (half 1 (P0 A 0 c)))) $$ F01; iintro F01
  iapply (WP_seq c (store_wp c 1 0 0 (half 0 (P0 A 1 c)))) $$ F10; iintro F10
  iapply (WP_seq c (store_wp c 1 1 0 (half 1 (P0 A 1 c)))) $$ F11; iintro F11
  icases HG with ⟨G00, G10, G01, G11⟩
  iapply (WP_seq c (signal_wp A K c 0 (show O0 c = (O1 c + tallyAt (barC (upD 1 c)) 2 1) + tallyAt (barC (upD 0 c)) 2 1 from rfl))) $$ [HO Ht0 G00 G01]
  · isplitr; · iexact Hc
    isplitl [HO]; · iexact HO
    isplitl [Ht0]; · iexact Ht0
    isplitl [G00]; · iexact G00
    iexact G01
  iintro HO
  iapply (WP_seq c (signal_wp A K c 1 rfl)) $$ [HO Ht1 G10 G11]
  · isplitr; · iexact Hc
    isplitl [HO]; · iexact HO
    isplitl [Ht1]; · iexact Ht1
    isplitl [G10]; · iexact G10
    iexact G11
  iintro HO
  iapply (WP_seq c (barrier_wp A K c (O1_above c (by omega)))) $$ [HO Hcr Hat]
  · isplitr; · iexact Hc
    isplitl [Hcr]; · iexact Hcr
    isplitl [HO]; · iexact HO
    iexact Hat
  unfold barPay
  iintro ⟨HO, Hat, ⟨G00, G01⟩, ⟨G10, G11⟩⟩
  icases HR with ⟨R00, R10, R01, R11⟩
  iapply (WP_last c (four_wp A K c (fun di li => sendProg di li c 0) (RJ A c) (fun di li => RA A c di li 0) (T0 c)
    fun di li => first_wp A K c di li (T0_step c di li))) $$ [HO R00 R10 R01 R11 F00 F10 F01 F11 G00 G10 G01 G11]
  · isplitr; · iexact Hc
    isplitl [HO]; · iexact HO
    unfold rings RJ
    isplitl [R00 F00 G00]
    · isplitl [R00]; · iexact R00
      isplitl [F00]; · iexact F00
      iexact G00
    isplitl [R10 F10 G10]
    · isplitl [R10]; · iexact R10
      isplitl [F10]; · iexact F10
      iexact G10
    isplitl [R01 F01 G01]
    · isplitl [R01]; · iexact R01
      isplitl [F01]; · iexact F01
      iexact G01
    isplitl [R11]; · iexact R11
    isplitl [F11]; · iexact F11
    iexact G11
  unfold rings
  iintro ⟨HO, HR⟩
  isplitl [Hst]; · iexact Hst
  isplitl [Hat]; · iexact Hat
  isplitl [HO]; · iexact HO
  iexact HR

/-! ## The hops -/

theorem parts_wp (c : Dev nD) (h : Fin 7) :
    staged A c ⊢ WP c (F := F) (parts c h) fun x => iprop(⌜x = fun di => P A di c h⌝ ∗ staged A c) := by
  unfold parts
  iintro Hst
  iapply (WP_val c (part_wp A c 0 h)) $$ Hst; iintro Hst
  iapply (WP_val c (part_wp A c 1 h)) $$ Hst; iintro Hst
  iapply (WP_ret c)
  isplitr
  · ipureintro; funext di
    match di with
    | 0 => rfl
    | 1 => rfl
  · iexact Hst

theorem red_wp (c : Dev nD) : ∀ (n : ℕ) (hn : n < 7),
    iprop(ctx A K ∗ staged A c ∗ owesW c (O c 0) ∗ rings fun di li => RA A c di li 0)
      ⊢ WP c (F := F) (redProg c n hn) fun x =>
        iprop(⌜x = fun di => P A di c ⟨n, hn⟩⌝ ∗ (staged A c ∗ owesW c (O c (4 * n)) ∗ rings fun di li => RA A c di li n))
  | 0, hn => by
    unfold redProg
    iintro ⟨-, Hst, HO, HR⟩
    iapply (wp_wand frame (wpE (defs₀ (F := F)) 𝒱₀ (c : Thread nD τ) none) Set.univ (Q := fun x => iprop(⌜x = fun di => P A di c ⟨0, hn⟩⌝ ∗ staged A c))) $$ [Hst]
    · iapply (parts_wp A c ⟨0, hn⟩); iexact Hst
    iintro %x ⟨%hx, Hst⟩
    isplitr; · ipureintro; exact hx
    isplitl [Hst]; · iexact Hst
    isplitl [HO]; · iexact HO
    iexact HR
  | n + 1, hn => by
    unfold redProg
    iintro ⟨#Hc, Hst, HO, HR⟩
    iapply (WP_val c (red_wp c n (Nat.lt_of_succ_lt hn))) $$ [Hst HO HR]
    · isplitr; · iexact Hc
      isplitl [Hst]; · iexact Hst
      isplitl [HO]; · iexact HO
      iexact HR
    iintro ⟨Hst, HO, HR⟩
    iapply (WP_seq c (four_wp A K c (fun di li => stepA di li c n (P A di c ⟨n, Nat.lt_of_succ_lt hn⟩)) (fun di li => RA A c di li n)
      (fun di li => RA A c di li (n + 1)) (fun k => O c (4 * n + k)) fun di li => stepA_wp A K c di li (Nat.lt_of_succ_lt_succ hn))) $$ [HO HR]
    · isplitr; · iexact Hc
      isplitl [HO]; · iexact HO
      iexact HR
    iintro ⟨HO, HR⟩
    iapply (wp_wand frame (wpE (defs₀ (F := F)) 𝒱₀ (c : Thread nD τ) none) Set.univ (Q := fun x => iprop(⌜x = fun di => P A di c ⟨n + 1, hn⟩⌝ ∗ staged A c))) $$ [Hst]
    · iapply (parts_wp A c ⟨n + 1, hn⟩); iexact Hst
    iintro %x ⟨%hx, Hst⟩
    isplitr; · ipureintro; exact hx
    isplitl [Hst]; · iexact Hst
    isplitl [HO]; · iexact HO
    iexact HR

theorem gather_wp (c : Dev nD) : ∀ (n : ℕ) (hn : n < 7),
    iprop(ctx A K ∗ owesW c (O c 28) ∗ rings fun di li => RC A c di li 0)
      ⊢ WP c (F := F) (gatherProg c n hn) fun _ => iprop(owesW c (O c (4 * (n + 7))) ∗ rings fun di li => RC A c di li n)
  | 0, hn => by
    unfold gatherProg
    iintro ⟨-, HO, HR⟩
    iapply (WP_ret c)
    isplitl [HO]; · iexact HO
    iexact HR
  | n + 1, hn => by
    unfold gatherProg
    iintro ⟨#Hc, HO, HR⟩
    iapply (WP_seq c (gather_wp c n (Nat.lt_of_succ_lt hn))) $$ [HO HR]
    · isplitr; · iexact Hc
      isplitl [HO]; · iexact HO
      iexact HR
    iintro ⟨HO, HR⟩
    have e : 4 * (n + 1 + 7) = 4 * (n + 7) + 4 := by omega
    rw [e]
    iapply (four_wp A K c (fun di li => stepC di li c n (Nat.lt_of_succ_lt hn)) (fun di li => RC A c di li n)
      (fun di li => RC A c di li (n + 1)) (fun k => O c (4 * (n + 7) + k)) fun di li => stepC_wp A K c di li (Nat.lt_of_succ_lt_succ hn) _)
    isplitr; · iexact Hc
    isplitl [HO]; · iexact HO
    iexact HR

/-! ## The body -/

/-- What a device's body ends with. -/
def bodyEnd (c : Dev nD) : sProp 𝕄 := iprop(staged A c ∗ owesW c 0 ∗ atPos ER (barC c) 1 ∅ 0 ∗ rings (RF A c))

theorem body_wp (c : Dev nD) : iprop(ctx A K ∗ bodyStart A c) ⊢ WP c (F := F) body fun _ => bodyEnd A c := by
  unfold body
  iintro ⟨#Hc, HB⟩
  have hdev : ∀ (k : Dev nD → TcProg F PUnit) (Q : PUnit → sProp 𝕄), WP c (k c) Q ⊢ WP c (Prog.lift .deviceId >>= k) Q := fun k Q =>
    Entails.of_eq (wp_deviceId 𝒱₀ (c : Thread nD τ) none Set.univ (k := k)).symm
  iapply (hdev _ _)
  iapply (WP_seq c (start_wp A K c)) $$ [HB]
  · isplitr; · iexact Hc
    iexact HB
  iintro ⟨Hst, Hat, HO, HR⟩
  iapply (WP_val c (red_wp A K c 6 (Nat.lt_succ_self 6))) $$ [Hst HO HR]
  · isplitr; · iexact Hc
    isplitl [Hst]; · iexact Hst
    isplitl [HO]; · iexact HO
    iexact HR
  iintro ⟨Hst, HO, HR⟩
  iapply (WP_seq c (four_wp A K c (fun di li => stepB di li c (P A di c 6)) (fun di li => RA A c di li 6)
    (fun di li => RC A c di li 0) (fun k => O c (4 * 6 + k)) fun di li => stepB_wp A K c di li)) $$ [HO HR]
  · isplitr; · iexact Hc
    isplitl [HO]; · iexact HO
    iexact HR
  iintro ⟨HO, HR⟩
  iapply (WP_seq c (gather_wp A K c 6 (Nat.lt_succ_self 6))) $$ [HO HR]
  · isplitr; · iexact Hc
    isplitl [HO]; · iexact HO
    iexact HR
  iintro ⟨HO, HR⟩
  have h0 : O c (4 * (6 + 7)) = 0 := O_end c (by omega)
  rw [h0]
  iapply (WP_seq c (four_wp A K c (fun di li => stepD di li c) (fun di li => RC A c di li 6)
    (RE A c) (fun _ => 0) fun di li => stepD_wp A K c di li rfl)) $$ [HO HR]
  · isplitr; · iexact Hc
    isplitl [HO]; · iexact HO
    iexact HR
  iintro ⟨HO, HR⟩
  iapply (WP_last c (four_wp A K c (fun di li => copiedProg di li c 7) (RE A c)
    (RF A c) (fun _ => 0) fun di li => stepE_wp A K c di li rfl)) $$ [HO HR]
  · isplitr; · iexact Hc
    isplitl [HO]; · iexact HO
    iexact HR
  iintro ⟨HO, HR⟩
  unfold bodyEnd
  isplitl [Hst]; · iexact Hst
  isplitl [HO]; · iexact HO
  isplitl [Hat]; · iexact Hat
  iexact HR

end Cert.KernelIdeal.Rings
-- ==== Proof.Offsets.lean ====
module

public import proofs.«01_k».proof.Proof.Cells

/-!
# Which rows and columns a hop works on

The offsets the kernel computes, in closed form, and that the blocks a device writes are the whole
result, each once.
-/

@[expose] public section

namespace Cert.KernelIdeal.Rings

open Idealize.ShloMosaic Idealize.ShloMosaic.TcCoe Cert.KernelIdeal.Gen

/-- The chunk of rows a device writes with a copy. -/
def outChunk (di : Fin 2) (d : Dev nD) (j : Fin 8) : ℕ := if di = 0 then (d.val + 9 + 7 * j.val) % 8 else (d.val + 7 + j.val) % 8

/-- The chunk of rows a device multiplies for a hop. -/
def inChunk (di : Fin 2) (d : Dev nD) (h : Fin 7) : ℕ := if di = 0 then (d.val + 23 + 7 * h.val) % 8 else (d.val + 1 + h.val) % 8

theorem oOff_eq : ∀ (di : Fin 2) (d : Dev nD) (j : Fin 8) (li : Fin 2),
    oOff di d j li = ![512 * outChunk di d j + 256 * li.val, 4096 * di.val] := by decide +kernel

theorem xOff_eq : ∀ (di : Fin 2) (d : Dev nD) (h : Fin 7), xOff di d h = ![512 * inChunk di d h, 0] := by decide +kernel

theorem outChunk_lt (di : Fin 2) (d : Dev nD) (j : Fin 8) : outChunk di d j < 8 := by
  unfold outChunk; split <;> omega

theorem outChunk_inj : ∀ (di : Fin 2) (d : Dev nD) (j j' : Fin 8), outChunk di d j = outChunk di d j' → j = j' := by decide +kernel

theorem outChunk_surj : ∀ (di : Fin 2) (d : Dev nD) (q : Fin 8), ∃ j, outChunk di d j = q.val := by decide +kernel

/-! ## Where an index lies -/

theorem mem_oRect (di : Fin 2) (d : Dev nD) (j : Fin 8) (li : Fin 2) (i : S4096x8192.Idx) :
    i ∈ (oRect di d j li).set ↔ (i 1 : ℕ) / 4096 = di.val ∧ (i 0 : ℕ) / 512 = outChunk di d j ∧ (i 0 : ℕ) / 256 % 2 = li.val := by
  have h0 : oOff di d j li 0 = 512 * outChunk di d j + 256 * li.val := by rw [oOff_eq]; rfl
  have h1 : oOff di d j li 1 = 4096 * di.val := by rw [oOff_eq]; rfl
  have hl : li.val < 2 := li.isLt
  rw [Rect.mem_set_unit]
  constructor
  · intro h
    have a0 : oOff di d j li 0 ≤ (i 0 : ℕ) ∧ (i 0 : ℕ) < oOff di d j li 0 + 256 := h 0
    have a1 : oOff di d j li 1 ≤ (i 1 : ℕ) ∧ (i 1 : ℕ) < oOff di d j li 1 + 4096 := h 1
    rw [h0] at a0; rw [h1] at a1
    omega
  · rintro ⟨b1, b0, b2⟩ a
    match a with
    | 0 => show oOff di d j li 0 ≤ (i 0 : ℕ) ∧ (i 0 : ℕ) < oOff di d j li 0 + 256; rw [h0]; omega
    | 1 => show oOff di d j li 1 ≤ (i 1 : ℕ) ∧ (i 1 : ℕ) < oOff di d j li 1 + 4096; rw [h1]; omega

/-- A device's blocks, under one index. -/
abbrev oTile (c : Dev nD) (t : (Fin 2 × Fin 2) × Fin 8) : Rect S4096x8192 := oRect t.1.1 c t.2 t.1.2

theorem oTile_disjoint (c : Dev nD) (t t' : (Fin 2 × Fin 2) × Fin 8) (h : t ≠ t') : Disjoint (oTile c t).set (oTile c t').set := by
  rw [Finset.disjoint_left]
  intro i h1 h2
  obtain ⟨a1, a2, a3⟩ := (mem_oRect _ _ _ _ i).mp h1
  obtain ⟨b1, b2, b3⟩ := (mem_oRect _ _ _ _ i).mp h2
  obtain ⟨⟨di, li⟩, j⟩ := t
  obtain ⟨⟨di', li'⟩, j'⟩ := t'
  have e1 : di = di' := Fin.ext (a1.symm.trans b1)
  have e2 : li = li' := Fin.ext (a3.symm.trans b3)
  subst e1; subst e2
  have e3 : j = j' := outChunk_inj di c j j' (a2.symm.trans b2)
  exact h (by rw [e3])

theorem oTile_cover (c : Dev nD) : (Finset.univ : Finset ((Fin 2 × Fin 2) × Fin 8)).biUnion (fun t => (oTile c t).set) = Finset.univ := by
  ext i
  refine ⟨fun _ => Finset.mem_univ i, fun _ => ?_⟩
  have h0 : (i 0 : ℕ) < 4096 := (i 0).isLt
  have h1 : (i 1 : ℕ) < 8192 := (i 1).isLt
  obtain ⟨j, hj⟩ := outChunk_surj ⟨(i 1 : ℕ) / 4096, by omega⟩ c ⟨(i 0 : ℕ) / 512, by omega⟩
  exact Finset.mem_biUnion.mpr ⟨((⟨(i 1 : ℕ) / 4096, by omega⟩, ⟨(i 0 : ℕ) / 256 % 2, by omega⟩), j), Finset.mem_univ _,
    (mem_oRect _ _ _ _ i).mpr ⟨rfl, hj.symm, rfl⟩⟩

/-! ## The two slots of a buffer -/

theorem mem_slotRect (s : Fin 2) (i : S2x256x4096.Idx) : i ∈ (slotRect s).set ↔ (i 0 : ℕ) = s.val := by
  rw [Rect.mem_set_unit]
  constructor
  · intro h
    have a0 : s.val ≤ (i 0 : ℕ) ∧ (i 0 : ℕ) < s.val + 1 := h 0
    omega
  · intro h a
    match a with
    | 0 => show s.val ≤ (i 0 : ℕ) ∧ (i 0 : ℕ) < s.val + 1; omega
    | 1 => exact ⟨Nat.zero_le _, by show (i 1 : ℕ) < 0 + 256; have h1 : (i 1 : ℕ) < 256 := (i 1).isLt; omega⟩
    | 2 => exact ⟨Nat.zero_le _, by show (i 2 : ℕ) < 0 + 4096; have h2 : (i 2 : ℕ) < 4096 := (i 2).isLt; omega⟩

theorem slotRect_disjoint (s s' : Fin 2) (h : s ≠ s') : Disjoint (slotRect s).set (slotRect s').set := by
  rw [Finset.disjoint_left]
  intro i h1 h2
  exact h (Fin.ext (((mem_slotRect s i).mp h1).symm.trans ((mem_slotRect s' i).mp h2)))

theorem slotRect_cover : (Finset.univ : Finset (Fin 2)).biUnion (fun s => (slotRect s).set) = Finset.univ := by
  ext i
  exact ⟨fun _ => Finset.mem_univ i, fun _ => Finset.mem_biUnion.mpr ⟨i 0, Finset.mem_univ _, (mem_slotRect _ i).mpr rfl⟩⟩

end Cert.KernelIdeal.Rings
-- ==== Proof.Memory.lean ====
module

public import proofs.«01_k».proof.Proof.Run
public import proofs.«01_k».proof.Proof.Offsets

/-!
# Whole buffers and their parts

A ring's buffer is its two slots, and the result is the blocks a device's copies write.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

theorem eq_of {P Q : sProp 𝕄} (h : P ⊢ Q) (h' : Q ⊢ P) : P = Q := BI.Entails.antisymm h h'
theorem by_way {P Q R : sProp 𝕄} (h' : Q ⊢ R) (h : P ⊢ Q) : P ⊢ R := h.trans h'

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole buffer at some contents. -/
theorem whole_any (c : Dev nD) (b : Ref sig .tc) :
    (iprop(∃ f : Buf (Elt F) (((c : Dev nD) : Thread nD τ).loc b), ((c : Thread nD τ).loc b) ↦{fullShare} f) : sProp 𝕄)
      = ownsSat (c : Thread nD τ) (Memref.whole b) fullShare fun _ => True := by
  unfold ownsSat; simp only [Memref.view_whole, View.set_whole]
  refine eq_of ?_ ?_
  · iintro ⟨%f, H⟩; iexists f; isplitr
    · ipureintro; trivial
    · iexact H
  · iintro ⟨%f, -, H⟩; iexists f; iexact H

/-! ## A ring's buffer -/

theorem slot_any (c : Dev nD) (di li s : Fin 2) :
    (freeSlot (F := F) c di li s : sProp 𝕄) = ownsSat (c : Thread nD τ) ((comm di li).slice (slotRect s) (fun _ => rfl)) fullShare fun _ => True := by
  unfold freeSlot
  refine eq_of ?_ ?_
  · unfold slotAt owns ownsSat
    iintro ⟨%Y, %f, -, H⟩; iexists f; isplitr
    · ipureintro; trivial
    · iapply (Entails.of_eq (congrArg (fun S => ((slot di li s).view.loc (c : Thread nD τ) ↦[S]{fullShare} f : sProp 𝕄)) (access_set di li s).symm)); iexact H
  · unfold ownsSat
    iintro ⟨%f, -, H⟩; iexists ((slot di li s).view.read (Elt F) f)
    iapply (owns_intro (c : Thread nD τ) (slot di li s) fullShare f)
    iapply (Entails.of_eq (congrArg (fun S => ((slot di li s).view.loc (c : Thread nD τ) ↦[S]{fullShare} f : sProp 𝕄)) (access_set di li s))); iexact H

/-- A ring's buffer, whole, whatever it holds. -/
def commAny (c : Dev nD) (di li : Fin 2) : sProp 𝕄 := ownsSat (Val := Elt F) (c : Thread nD τ) (comm di li) fullShare fun _ => True

theorem bigSep_fin2 (Φ : Fin 2 → sProp 𝕄) : bigSep Finset.univ Φ = iprop(Φ 0 ∗ Φ 1) := bigSep_univ_eq_bigSepL [0, 1] (by decide) (by decide) Φ

theorem comm_slots (c : Dev nD) (di li : Fin 2) :
    (commAny (F := F) c di li : sProp 𝕄) = iprop(freeSlot c di li 0 ∗ freeSlot c di li 1) := by
  rw [slot_any, slot_any]
  refine eq_of ?_ ?_
  · refine ((ownsSat_mono _ _ _ fun _ _ _ => trivial).trans
      (ownsSat_rects (c : Thread nD τ) (comm di li) fullShare slotRect (fun _ _ => rfl) slotRect_disjoint slotRect_cover fun _ _ => True)).trans ?_
    rw [bigSep_fin2]
  · refine by_way ((ownsSat_of_rects (c : Thread nD τ) (comm di li) fullShare slotRect (fun _ _ => rfl) slotRect_disjoint slotRect_cover fun _ _ => True).trans
      (ownsSat_mono _ _ _ fun _ _ => trivial)) ?_
    rw [bigSep_fin2]

theorem scopedRest_comm (c : Dev nD) :
    (Pipeline.scopedRest (Ix := ℕ) (Name := ℕ) (U := UU) (Lvl := ℕ) (Val := Elt F) spec0 c : sProp 𝕄) = rings fun di li => commAny (F := F) c di li := by
  rw [scopedRest0_eq, whole_any, whole_any, whole_any, whole_any]
  simp only [rings, commAny, comm]
  refine eq_of ?_ ?_
  · iintro ⟨H0, H1, H2, H3⟩
    isplitl [H0]; · iexact H0
    isplitl [H2]; · iexact H2
    isplitl [H1]; · iexact H1
    iexact H3
  · iintro ⟨H0, H2, H1, H3⟩
    isplitl [H0]; · iexact H0
    isplitl [H1]; · iexact H1
    isplitl [H2]; · iexact H2
    iexact H3

/-! ## The result -/

theorem rings_eq (Φ : Fin 2 → Fin 2 → sProp 𝕄) : (bigSep Finset.univ fun k : Fin 2 × Fin 2 => Φ k.1 k.2) = rings Φ :=
  bigSep_univ_eq_bigSepL [(0, 0), (1, 0), (0, 1), (1, 1)] (by decide) (by decide) fun k : Fin 2 × Fin 2 => Φ k.1 k.2

/-- Eight copies, counted by numbers. -/
theorem bigSep_copies (Φ : ℕ → sProp 𝕄) : (bigSep Finset.univ fun j : Fin 8 => Φ j.val) = bigSep (Finset.range 8) Φ := by
  rw [show Finset.range 8 = (Finset.univ : Finset (Fin 8)).map Fin.valEmbedding from by decide, bigSep_map]; rfl

theorem out_split (c : Dev nD) (f : Buf (Elt F) ((c : Thread nD τ).loc main_v1)) :
    (((c : Thread nD τ).loc main_v1) ↦{fullShare} f : sProp 𝕄)
      ⊢ rings fun di li => bigSep (Finset.range 8) fun j => iprop(∃ Y, blkAt (F := F) c di (jj j) li Y) := by
  have h : (((c : Thread nD τ).loc main_v1) ↦{fullShare} f : sProp 𝕄) ⊢ ownsSat (c : Thread nD τ) oM fullShare fun _ => True := by
    have h0 := Entails.of_eq (whole_any (F := F) c main_v1)
    iintro H; iapply h0; iexists f; iexact H
  refine (h.trans ((ownsSat_mono _ _ _ fun _ _ _ => trivial).trans
    (ownsSat_rects (c : Thread nD τ) oM fullShare (oTile c) (fun _ _ => rfl) (oTile_disjoint c) (oTile_cover c) fun _ _ => True))).trans ?_
  rw [bigSep_univ_prod, ← rings_eq]
  refine bigSep_mono fun k _ => ?_
  rw [← bigSep_copies]
  refine bigSep_mono fun j _ => ?_
  rw [jj_val]
  exact ownsSat_any _ _ _

/-- The result of a device, whole, each block holding what its ring brought. -/
def outDone (A : Args F) (c : Dev nD) : sProp 𝕄 :=
  ownsSat (c : Thread nD τ) oM fullShare fun Y => ∀ t : (Fin 2 × Fin 2) × Fin 8, (fun i => Y ((oTile c t).emb i)) = X A t.1.1 t.1.2 (t.2.val + 7) c

theorem out_join (A : Args F) (c : Dev nD) : (rings fun di li => done A c di li 8) ⊢ outDone A c := by
  have h := ownsSat_of_rects (Ix := ℕ) (Name := ℕ) (U := UU) (Lvl := ℕ) (Val := Elt F) (c : Thread nD τ) oM fullShare (oTile c) (fun _ _ => rfl) (oTile_disjoint c) (oTile_cover c)
    fun t Y => Y = X A t.1.1 t.1.2 (t.2.val + 7) c
  unfold outDone
  refine by_way h ?_
  rw [bigSep_univ_prod, ← rings_eq]
  refine bigSep_mono fun k _ => ?_
  unfold done
  rw [← bigSep_copies]
  refine bigSep_mono fun j _ => ?_
  rw [jj_val]
  exact BI.Entails.refl _

end Cert.KernelIdeal.Rings
-- ==== Proof.Deal.lean ====
module

public import proofs.«01_k».proof.Proof.Memory

/-!
# Dealing what the launch gives

The cells' positions, the duties' tokens and the credits, device by device and ring by ring, in the
order a ring's hops use them.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Regrouping -/

theorem bigSep_option {I : Type} [Fintype I] [DecidableEq I] (Φ : Option I → sProp 𝕄) :
    bigSep Finset.univ Φ = iprop(Φ none ∗ bigSep Finset.univ fun i => Φ (some i)) := by
  have h : (Finset.univ : Finset (Option I)) = insert none (Finset.univ.map Function.Embedding.some) := by
    ext o; cases o <;> simp
  rw [h]
  refine (bigSep_insert (by simp)).trans ?_
  rw [bigSep_map]; rfl

/-- A ring's seven cells. -/
def ringOf (Ψ : OCell → sProp 𝕄) (di li : Fin 2) : sProp 𝕄 :=
  iprop(Ψ ((di, li), none) ∗ Ψ ((di, li), some (.snd, 0)) ∗ Ψ ((di, li), some (.snd, 1)) ∗ Ψ ((di, li), some (.rcv, 0))
    ∗ Ψ ((di, li), some (.rcv, 1)) ∗ Ψ ((di, li), some (.cpy, 0)) ∗ Ψ ((di, li), some (.cpy, 1)))

theorem own_cells (Ψ : OCell → sProp 𝕄) : bigSep Finset.univ Ψ = rings (ringOf Ψ) := by
  rw [bigSep_univ_prod, ← rings_eq]
  refine bigSep_congr fun k _ => ?_
  exact bigSep_univ_eq_bigSepL [none, some (Arr.snd, 0), some (.snd, 1), some (.rcv, 0), some (.rcv, 1), some (.cpy, 0), some (.cpy, 1)]
    (by decide) (by decide) fun o => Ψ (k, o)

theorem cells_eq (Ψ : Cell → sProp 𝕄) : bigSep Finset.univ Ψ = iprop(Ψ none ∗ rings (ringOf fun o => Ψ (some o))) := by
  rw [bigSep_option, own_cells]

theorem rings_sep (Φ Ψ : Fin 2 → Fin 2 → sProp 𝕄) : (rings fun di li => iprop(Φ di li ∗ Ψ di li)) = iprop(rings Φ ∗ rings Ψ) := by
  rw [← rings_eq, ← rings_eq, ← rings_eq, bigSep_sep']

theorem rings_mono {Φ Ψ : Fin 2 → Fin 2 → sProp 𝕄} (h : ∀ di li, Φ di li ⊢ Ψ di li) : rings Φ ⊢ rings Ψ := by
  rw [← rings_eq, ← rings_eq]; exact bigSep_mono fun k _ => h k.1 k.2

theorem range_peel (n : ℕ) (Φ : ℕ → sProp 𝕄) : bigSep (Finset.range (n + 1)) Φ = iprop(Φ n ∗ bigSep (Finset.range n) Φ) := by
  rw [Finset.range_add_one]; exact bigSep_insert Finset.notMem_range_self

theorem range_first (n : ℕ) (Φ : ℕ → sProp 𝕄) : bigSep (Finset.range (n + 1)) Φ = iprop(Φ 0 ∗ bigSep (Finset.range n) fun h => Φ (h + 1)) := by
  have h : Finset.range (n + 1) = insert 0 ((Finset.range n).map ⟨fun h => h + 1, add_left_injective 1⟩) := by
    ext i; cases i <;> simp
  rw [h]
  refine (bigSep_insert (by simp)).trans ?_
  rw [bigSep_map]; rfl

/-- Two slots' rounds are the hops. -/
theorem slots_hops (Φ : Fin 2 → ℕ → sProp 𝕄) (n : ℕ) :
    iprop(bigSep (Finset.range n) (Φ 0) ∗ bigSep (Finset.range n) (Φ 1)) ⊢ bigSep (Finset.range (2 * n)) fun h => Φ (par h) (h / 2) := by
  induction n with
  | zero => iintro ⟨H, -⟩; iexact H
  | succ n ih =>
    have h0 : par (2 * n) = 0 := Fin.ext (show 2 * n % 2 = 0 by omega)
    have h1 : par (2 * n + 1) = 1 := Fin.ext (show (2 * n + 1) % 2 = 1 by omega)
    have e0 : 2 * n / 2 = n := by omega
    have e1 : (2 * n + 1) / 2 = n := by omega
    rw [show 2 * (n + 1) = 2 * n + 1 + 1 by omega, range_peel, range_peel, range_peel, range_peel, h0, h1, e0, e1]
    iintro ⟨⟨H0, Ha⟩, H1, Hb⟩
    isplitl [H1]; · iexact H1
    isplitl [H0]; · iexact H0
    iapply ih; isplitl [Ha]; · iexact Ha
    iexact Hb

/-- The steps are the rings' hops. -/
theorem steps_hops (Φ : Fin 2 → Fin 2 → ℕ → sProp 𝕄) (n : ℕ) :
    bigSep (Finset.range (4 * n)) (fun m => Φ (stepDi m) (stepLi m) (m / 4)) ⊢ rings fun di li => bigSep (Finset.range n) (Φ di li) := by
  induction n with
  | zero =>
    rw [← rings_eq]
    simp only [Finset.range_zero, bigSep_empty, Nat.mul_zero]
    exact Entails.of_eq (bigSep_emp_const _).symm
  | succ n ih =>
    have hs : ∀ di li : Fin 2, Φ (stepDi (stepNo di li n)) (stepLi (stepNo di li n)) (stepNo di li n / 4) = Φ di li n := fun di li => by
      have hd : stepDi (stepNo di li n) = di := Fin.ext (by show (4 * n + (2 * li.val + di.val)) % 2 = di.val; omega)
      have hl : stepLi (stepNo di li n) = li := Fin.ext (by show (4 * n + (2 * li.val + di.val)) / 2 % 2 = li.val; omega)
      have hh : stepNo di li n / 4 = n := by show (4 * n + (2 * li.val + di.val)) / 4 = n; omega
      rw [hd, hl, hh]
    have h00 := hs 0 0
    have h10 := hs 1 0
    have h01 := hs 0 1
    have h11 := hs 1 1
    rw [show 4 * (n + 1) = 4 * n + 1 + 1 + 1 + 1 by omega, range_peel, range_peel, range_peel, range_peel]
    simp only [range_peel, rings_sep]
    iintro ⟨H3, H2, H1, H0, H⟩
    isplitr [H]
    · unfold rings
      isplitl [H0]; · iapply (Entails.of_eq h00); iexact H0
      isplitl [H1]; · iapply (Entails.of_eq h10); iexact H1
      isplitl [H2]; · iapply (Entails.of_eq h01); iexact H2
      iapply (Entails.of_eq h11); iexact H3
    · iapply ih; iexact H

/-! ## Tokens -/

/-- The duties of a cell, by round. -/
def cellToks (x : Cell) : Finset (ℕ × Fin 2) := Finset.range (cellRounds x) ×ˢ cellDuties x 0

def tokAt (p : Dev nD × Cell) : ℕ × Fin 2 ↪ GSem nD τ sig × ℕ × Fin 2 :=
  ⟨fun rd => (kcell p.1 p.2, rd), fun _ _ h => congrArg Prod.snd h⟩

def allCells : Finset (GSem nD τ sig) := (Finset.univ : Finset (Dev nD × Cell)).map ⟨fun p => kcell p.1 p.2, kcell_injective⟩

def allToks : Finset (GSem nD τ sig × ℕ × Fin 2) := (Finset.univ : Finset (Dev nD × Cell)).biUnion fun p => (cellToks p.2).map (tokAt p)

/-- The tokens of a cell. -/
def toksOf (c : Dev nD) (x : Cell) : sProp 𝕄 := bigSep (cellToks x) fun rd => dutyTok ER (kcell c x) rd.1 rd.2

theorem allCells_eq (Φ : GSem nD τ sig → sProp 𝕄) : bigSep allCells Φ = bigSep Finset.univ fun c : Dev nD => bigSep Finset.univ fun x : Cell => Φ (kcell c x) := by
  unfold allCells; rw [bigSep_map, bigSep_univ_prod]; rfl

theorem allToks_eq : bigSep allToks (fun x => (dutyTok ER x.1 x.2.1 x.2.2 : sProp 𝕄))
    = bigSep Finset.univ fun c : Dev nD => bigSep Finset.univ fun x : Cell => toksOf c x := by
  have hd : ∀ p ∈ (Finset.univ : Finset (Dev nD × Cell)), ∀ q ∈ (Finset.univ : Finset (Dev nD × Cell)), p ≠ q →
      Disjoint ((cellToks p.2).map (tokAt p)) ((cellToks q.2).map (tokAt q)) := fun p _ q _ hpq => by
    rw [Finset.disjoint_left]
    intro a h1 h2
    obtain ⟨_, _, rfl⟩ := Finset.mem_map.mp h1
    obtain ⟨_, _, h⟩ := Finset.mem_map.mp h2
    exact hpq (kcell_injective (congrArg Prod.fst h)).symm
  unfold allToks
  rw [BI.bigSep_biUnion_eq _ _ _ hd, bigSep_univ_prod]
  refine bigSep_congr fun c _ => bigSep_congr fun x _ => ?_
  rw [bigSep_map]; rfl

theorem toksOf_bar (c : Dev nD) : (toksOf c none : sProp 𝕄) = iprop(dutyTok ER (barC c) 0 0 ∗ dutyTok ER (barC c) 0 1) :=
  bigSep_eq_bigSepL_of_eq [((0 : ℕ), (0 : Fin 2)), (0, 1)] (by decide) (by decide) fun rd => (dutyTok ER (barC c) rd.1 rd.2 : sProp 𝕄)

theorem toksOf_own (c : Dev nD) (o : OCell) :
    (toksOf c (some o) : sProp 𝕄) = bigSep (Finset.range (cellRounds (some o))) fun r => dutyTok ER (kcell c (some o)) r 0 := by
  have h : cellToks (some o) = (Finset.range (cellRounds (some o))).map ⟨fun r => (r, (0 : Fin 2)), fun _ _ h => congrArg Prod.fst h⟩ := by
    have h0 : cellDuties (some o) 0 = {0} := by
      rcases o with ⟨_, _ | ⟨_ | _ | _, _⟩⟩ <;> rfl
    unfold cellToks; rw [h0]; ext ⟨r, d⟩
    simp only [Finset.mem_product, Finset.mem_singleton, Finset.mem_map, Function.Embedding.coeFn_mk]
    constructor
    · rintro ⟨h1, h2⟩; exact ⟨r, h1, by subst h2; rfl⟩
    · rintro ⟨a, h1, h2⟩; obtain ⟨rfl, rfl⟩ := h2; exact ⟨h1, rfl⟩
  unfold toksOf; rw [h, bigSep_map]; rfl

/-- The other slot. -/
def flip (s : Fin 2) : Fin 2 := if s = 0 then 1 else 0
theorem flip_par (h : ℕ) : flip (par h) = par (h + 1) := by
  rcases Nat.mod_two_eq_zero_or_one h with h0 | h0
  · rw [show par h = 0 from Fin.ext h0, show par (h + 1) = 1 from Fin.ext (show (h + 1) % 2 = 1 by omega)]; rfl
  · rw [show par h = 1 from Fin.ext h0, show par (h + 1) = 0 from Fin.ext (show (h + 1) % 2 = 0 by omega)]; rfl

/-- A ring's tokens, by hop. -/
def hopToks (c c' u : Dev nD) (di li : Fin 2) : sProp 𝕄 :=
  iprop((bigSep (Finset.range 13) fun h => dutyTok ER (crdC u di li) h 0) ∗ (bigSep (Finset.range 14) fun h => dutyTok ER (dmaC .snd c di li (par h)) (h / 2) 0)
    ∗ (bigSep (Finset.range 14) fun h => dutyTok ER (dmaC .rcv c' di li (par (h + 1))) (h / 2) 0)
    ∗ bigSep (Finset.range 8) fun j => dutyTok ER (dmaC .cpy c di li (par j)) (j / 2) 0)

theorem ring_toks (c : Dev nD) (di li : Fin 2) : ringOf (fun o => toksOf (F := F) c (some o)) di li ⊢ hopToks (F := F) c c c di li := by
  have hs := slots_hops (F := F) (fun s r => dutyTok ER (dmaC .snd c di li s) r 0) 7
  have hr := slots_hops (F := F) (fun s r => dutyTok ER (dmaC .rcv c di li (flip s)) r 0) 7
  have hc := slots_hops (F := F) (fun s r => dutyTok ER (dmaC .cpy c di li s) r 0) 4
  simp only [flip_par] at hr
  unfold ringOf hopToks
  simp only [toksOf_own]
  iintro ⟨H0, Hs0, Hs1, Hr0, Hr1, Hc0, Hc1⟩
  isplitl [H0]; · iexact H0
  isplitl [Hs0 Hs1]
  · iapply hs; isplitl [Hs0]; · iexact Hs0
    iexact Hs1
  isplitl [Hr0 Hr1]
  · iapply hr; isplitl [Hr1]; · iexact Hr1
    iexact Hr0
  iapply hc; isplitl [Hc0]; · iexact Hc0
  iexact Hc1

/-- What a device begins with of the tokens. -/
def payToks (c : Dev nD) : sProp 𝕄 :=
  iprop(dutyTok ER (barC (upD 0 c)) 0 0 ∗ dutyTok ER (barC (upD 1 c)) 0 1 ∗ rings fun di li => hopToks (F := F) c (dnD di c) (upD di c) di li)

theorem dev_up (di : Fin 2) (Φ : Dev nD → sProp 𝕄) : bigSep Finset.univ Φ = bigSep Finset.univ fun c : Dev nD => Φ (upD di c) :=
  bigSep_univ_equiv (ring di).symm Φ
theorem dev_dn (di : Fin 2) (Φ : Dev nD → sProp 𝕄) : bigSep Finset.univ Φ = bigSep Finset.univ fun c : Dev nD => Φ (dnD di c) :=
  bigSep_univ_equiv (ring di) Φ

theorem hops_around (di li : Fin 2) :
    (bigSep Finset.univ fun c : Dev nD => hopToks (F := F) c c c di li) = bigSep Finset.univ fun c : Dev nD => hopToks (F := F) c (dnD di c) (upD di c) di li := by
  unfold hopToks
  rw [bigSep_sep', bigSep_sep', bigSep_sep', bigSep_sep', bigSep_sep', bigSep_sep',
    dev_up di fun c => bigSep (Finset.range 13) fun h => (dutyTok ER (crdC c di li) h 0 : sProp 𝕄),
    dev_dn di fun c => bigSep (Finset.range 14) fun h => (dutyTok ER (dmaC .rcv c di li (par (h + 1))) (h / 2) 0 : sProp 𝕄)]

theorem rings_devs (Φ : Dev nD → Fin 2 → Fin 2 → sProp 𝕄) :
    (bigSep Finset.univ fun c : Dev nD => rings (Φ c)) = rings fun di li => bigSep Finset.univ fun c : Dev nD => Φ c di li := by
  unfold rings; rw [bigSep_sep', bigSep_sep', bigSep_sep']

/-- The tokens go to the devices that pay with them. -/
theorem toks_around : (bigSep Finset.univ fun c : Dev nD => bigSep Finset.univ fun x : Cell => toksOf (F := F) c x) ⊢ bigSep Finset.univ fun c : Dev nD => payToks (F := F) c := by
  unfold payToks
  simp only [cells_eq, toksOf_bar]
  rw [bigSep_sep', bigSep_sep', bigSep_sep', bigSep_sep', rings_devs, rings_devs,
    dev_up 0 fun c => (dutyTok ER (barC c) 0 0 : sProp 𝕄), dev_up 1 fun c => (dutyTok ER (barC c) 0 1 : sProp 𝕄)]
  simp only [← hops_around]
  iintro ⟨⟨H0, H1⟩, H⟩
  isplitl [H0]; · iexact H0
  isplitl [H1]; · iexact H1
  iapply (rings_mono fun di li => bigSep_mono fun c _ => ring_toks (F := F) c di li); iexact H

/-! ## Credits -/

/-- A ring's credits, by hop. -/
def hopCreds (c : Dev nD) (di li : Fin 2) : sProp 𝕄 :=
  iprop((bigSep (Finset.range 14) fun h => rcvCred (F := F) c di li h) ∗ bigSep (Finset.range 13) fun h => cred (tallyAt (crdC c di li) (cl di li h) 1))

theorem cred_send (c : Dev nD) (di li : Fin 2) (h : ℕ) : (Pipeline.launchCred (fun d => owSend d di li h) c : sProp 𝕄) ⊢ rcvCred c di li h :=
  Pipeline.launchCred_tallyAt (cellSem (some ((di, li), some (.rcv, par (h + 1))))) (dnD di) (upD di) (dn_up di) (up_dn di) (rl di li h) N c

theorem cred_credit (c : Dev nD) (di li : Fin 2) (h : ℕ) :
    (Pipeline.launchCred (fun d => owCredit d di li h) c : sProp 𝕄) ⊢ cred (tallyAt (crdC c di li) (cl di li h) 1) :=
  Pipeline.launchCred_tallyAt (cellSem (some ((di, li), none))) (upD di) (dnD di) (up_dn di) (dn_up di) (cl di li h) 1 c

theorem cred_bar (c : Dev nD) (di : Fin 2) : (Pipeline.launchCred (fun d => tallyAt (barC (upD di d)) 2 1) c : sProp 𝕄) ⊢ cred (tallyAt (barC c) 2 1) :=
  Pipeline.launchCred_tallyAt (cellSem none) (upD di) (dnD di) (up_dn di) (dn_up di) 2 1 c

theorem cred_steps (c : Dev nD) : (Pipeline.launchCred (fun d => O d 0) c : sProp 𝕄)
    ⊢ rings fun di li => iprop((bigSep (Finset.range 13) fun h => rcvCred (F := F) c di li (h + 1)) ∗ bigSep (Finset.range 13) fun h => cred (tallyAt (crdC c di li) (cl di li h) 1)) := by
  unfold O
  rw [Pipeline.launchCred_sum (Finset.Ico 0 52) (fun m d => owStep d m) c, Nat.Ico_zero_eq_range]
  have h := steps_hops (F := F) (fun di li h => iprop(rcvCred (F := F) c di li (h + 1) ∗ cred (tallyAt (crdC c di li) (cl di li h) 1))) 13
  simp only [bigSep_sep'] at h
  refine by_way h ?_
  rw [← bigSep_sep']
  refine bigSep_mono fun m _ => ?_
  unfold owStep
  rw [Pipeline.launchCred_add]
  exact BI.sep_mono (cred_send c _ _ _) (cred_credit c _ _ _)

theorem rings_sep3 (Φ Ψ Θ : Fin 2 → Fin 2 → sProp 𝕄) :
    iprop(rings Φ ∗ rings fun di li => iprop(Ψ di li ∗ Θ di li)) ⊢ rings fun di li => iprop((Φ di li ∗ Ψ di li) ∗ Θ di li) := by
  rw [← rings_sep]
  refine rings_mono fun di li => ?_
  iintro ⟨H1, H2, H3⟩
  isplitr [H3]
  · isplitl [H1]; · iexact H1
    iexact H2
  iexact H3

theorem cred_two (c : Dev nD) : iprop(cred (tallyAt (barC c) 2 1) ∗ cred (tallyAt (barC c) 2 1)) ⊢ (cred (tallyAt (barC c) 2 2) : sProp 𝕄) := by
  rw [show (tallyAt (barC c) 2 2 : CellTallies nD τ sig ℕ) = tallyAt (barC c) 2 1 + tallyAt (barC c) 2 1 from (tallyAt_add (barC c) 2 1 1).symm]
  exact (cred_add _ _).2

theorem hopCreds_eq (c : Dev nD) : hopCreds (F := F) c = fun di li => iprop((rcvCred (F := F) c di li 0 ∗ bigSep (Finset.range 13) fun h => rcvCred (F := F) c di li (h + 1))
    ∗ bigSep (Finset.range 13) fun h => cred (tallyAt (crdC c di li) (cl di li h) 1)) := by
  funext di li; unfold hopCreds; rw [range_first 13 fun h => rcvCred (F := F) c di li h]

theorem creds (c : Dev nD) : (Pipeline.launchCred O0 c : sProp 𝕄) ⊢ iprop(cred (tallyAt (barC c) 2 2) ∗ rings (hopCreds (F := F) c)) := by
  have hO : O0 = fun d => O d 0 + owSend d 1 1 0 + owSend d 0 1 0 + owSend d 1 0 0 + owSend d 0 0 0 + tallyAt (barC (upD 1 d)) 2 1 + tallyAt (barC (upD 0 d)) 2 1 := rfl
  rw [hO, Pipeline.launchCred_add, Pipeline.launchCred_add, Pipeline.launchCred_add, Pipeline.launchCred_add, Pipeline.launchCred_add, Pipeline.launchCred_add, hopCreds_eq]
  iintro ⟨⟨⟨⟨⟨⟨H, H11⟩, H01⟩, H10⟩, H00⟩, Hb1⟩, Hb0⟩
  isplitl [Hb0 Hb1]
  · iapply (cred_two (F := F) c)
    isplitl [Hb0]
    · iapply (cred_bar (F := F) c 0); iexact Hb0
    · iapply (cred_bar (F := F) c 1); iexact Hb1
  · iapply (rings_sep3 (F := F) _ _ _)
    isplitr [H]
    · unfold rings
      isplitl [H00]; · iapply (cred_send (F := F) c 0 0 0); iexact H00
      isplitl [H10]; · iapply (cred_send (F := F) c 1 0 0); iexact H10
      isplitl [H01]; · iapply (cred_send (F := F) c 0 1 0); iexact H01
      iapply (cred_send (F := F) c 1 1 0); iexact H11
    · iapply (cred_steps (F := F) c); iexact H

end Cert.KernelIdeal.Rings
-- ==== Proof.Ends.lean ====
module

public import proofs.«01_k».proof.Proof.Deal

/-!
# A device's start and end

From what the launch deals a device to the state its four rings start in, and from the state they
end in to every counter at zero again, the buffers and the finished result.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

/-! ## Regrouping -/

/-! ## The start -/

theorem stock_eq (c : Dev nD) (di li : Fin 2) : (stock c di li 0 : sProp 𝕄)
    = iprop((bigSep (Finset.range 13) fun h => rcvCred c di li h) ∗ (bigSep (Finset.range 13) fun h => dutyTok ER (crdC (upD di c) di li) h 0)
      ∗ (bigSep (Finset.range 13) fun h => cred (tallyAt (crdC c di li) (cl di li h) 1))
      ∗ (bigSep (Finset.range 13) fun h => dutyTok ER (dmaC .snd c di li (par (h + 1))) ((h + 1) / 2) 0)
      ∗ bigSep (Finset.range 13) fun h => dutyTok ER (dmaC .rcv (dnD di c) di li (par (h + 1 + 1))) ((h + 1) / 2) 0) := by
  unfold stock hopRes sendToks
  rw [Nat.Ico_zero_eq_range, bigSep_sep', bigSep_sep', bigSep_sep', bigSep_sep']

theorem cpyStock_eq (c : Dev nD) (di li : Fin 2) : (cpyStock c di li 0 : sProp 𝕄)
    = iprop((bigSep (Finset.range 8) fun j => dutyTok ER (dmaC .cpy c di li (par j)) (j / 2) 0) ∗ bigSep (Finset.range 8) fun j => iprop(∃ Y, blkAt (F := F) c di (jj j) li Y)) := by
  unfold cpyStock cpyRes
  rw [Nat.Ico_zero_eq_range, bigSep_sep']

theorem hopToks_eq (c c' u : Dev nD) (di li : Fin 2) : (hopToks c c' u di li : sProp 𝕄)
    = iprop((bigSep (Finset.range 13) fun h => dutyTok ER (crdC u di li) h 0)
      ∗ (dutyTok ER (dmaC .snd c di li (par 0)) (0 / 2) 0 ∗ bigSep (Finset.range 13) fun h => dutyTok ER (dmaC .snd c di li (par (h + 1))) ((h + 1) / 2) 0)
      ∗ (dutyTok ER (dmaC .rcv c' di li (par (0 + 1))) (0 / 2) 0 ∗ bigSep (Finset.range 13) fun h => dutyTok ER (dmaC .rcv c' di li (par (h + 1 + 1))) ((h + 1) / 2) 0)
      ∗ bigSep (Finset.range 8) fun j => dutyTok ER (dmaC .cpy c di li (par j)) (j / 2) 0) := by
  unfold hopToks
  rw [range_first 13 fun h => (dutyTok ER (dmaC .snd c di li (par h)) (h / 2) 0 : sProp 𝕄),
    range_first 13 fun h => (dutyTok ER (dmaC .rcv c' di li (par (h + 1))) (h / 2) 0 : sProp 𝕄)]

theorem hopCreds_last (c : Dev nD) (di li : Fin 2) : (hopCreds c di li : sProp 𝕄)
    = iprop((rcvCred c di li 13 ∗ bigSep (Finset.range 13) fun h => rcvCred c di li h)
      ∗ bigSep (Finset.range 13) fun h => cred (tallyAt (crdC c di li) (cl di li h) 1)) := by
  unfold hopCreds
  rw [range_peel 13 fun h => rcvCred (F := F) c di li h]

/-- A ring's part of what the launch deals. -/
def dealt (c : Dev nD) (di li : Fin 2) : sProp 𝕄 :=
  iprop(ringOf (fun o => atPos ER (kcell c (some o)) 0 ∅ 0) di li ∗ hopToks (F := F) c (dnD di c) (upD di c) di li ∗ hopCreds (F := F) c di li
    ∗ bigSep (Finset.range 8) fun j => iprop(∃ Y, blkAt (F := F) c di (jj j) li Y))

theorem RI_intro (c : Dev nD) (di li : Fin 2) : dealt (F := F) c di li ⊢ RI c di li := by
  unfold dealt RI ringOf posAt sendToks
  rw [stock_eq, cpyStock_eq, hopToks_eq, hopCreds_last]
  iintro ⟨⟨Hp, Hs0, Hs1, Hr0, Hr1, Hc0, Hc1⟩, ⟨Ht, ⟨Hs, Hss⟩, ⟨Hr, Hrs⟩, Hct⟩, ⟨⟨H13, Hrc⟩, Hcc⟩, Hb⟩
  isplitl [Hs0 Hs1 Hr0 Hr1]
  · isplitl [Hr1]; · iexact Hr1
    isplitl [Hr0]; · iexact Hr0
    isplitl [Hs0]; · iexact Hs0
    iexact Hs1
  isplitl [Hp]; · iexact Hp
  isplitl [Hs Hr]
  · isplitl [Hs]; · iexact Hs
    iexact Hr
  isplitl [Hrc Ht Hcc Hss Hrs]
  · isplitl [Hrc]; · iexact Hrc
    isplitl [Ht]; · iexact Ht
    isplitl [Hcc]; · iexact Hcc
    isplitl [Hss]; · iexact Hss
    iexact Hrs
  isplitl [H13]; · iexact H13
  isplitl [Hc0]; · iexact Hc0
  isplitl [Hc1]; · iexact Hc1
  isplitl [Hct]; · iexact Hct
  iexact Hb

/-- What a device's body starts from, apart from the operands and what it owes. -/
def startOf (c : Dev nD) : sProp 𝕄 :=
  iprop(atPos ER (barC c) 0 ∅ 0 ∗ dutyTok ER (barC (upD 0 c)) 0 0 ∗ dutyTok ER (barC (upD 1 c)) 0 1 ∗ cred (tallyAt (barC c) 2 2) ∗ rings (RI (F := F) c))

theorem start_of (c : Dev nD) (f : Buf (Elt F) ((c : Thread nD τ).loc main_v1)) :
    iprop((((c : Thread nD τ).loc main_v1) ↦{fullShare} f) ∗ Pipeline.launchCred O0 c
      ∗ (bigSep Finset.univ fun x : Cell => atPos ER (kcell c x) 0 ∅ 0) ∗ payToks (F := F) c) ⊢ startOf (F := F) c := by
  rw [cells_eq]
  unfold payToks startOf
  iintro ⟨Hf, Hcr, ⟨Hb, Hat⟩, Ht0, Ht1, Ht⟩
  ihave Hc := (creds (F := F) c) $$ Hcr
  icases Hc with ⟨Hc2, Hcs⟩
  ihave Hbl := (out_split (F := F) c f) $$ Hf
  isplitl [Hb]; · iexact Hb
  isplitl [Ht0]; · iexact Ht0
  isplitl [Ht1]; · iexact Ht1
  isplitl [Hc2]; · iexact Hc2
  iapply (rings_mono fun di li => RI_intro (F := F) c di li)
  unfold dealt
  rw [rings_sep, rings_sep, rings_sep]
  isplitl [Hat]; · iexact Hat
  isplitl [Ht]; · iexact Ht
  isplitl [Hcs]; · iexact Hcs
  iexact Hbl

/-! ## The end -/

variable (A : Args F) (K : Dev nD × Cell → ℕ)

theorem close_cell (c : Dev nD) (x : Cell) :
    iprop(ctx A K ∗ atPos ER (kcell c x) (cellRounds x) ∅ 0) ⊢ (|={Set.univ}=> semVal (kcell c x) 0 : sProp 𝕄) := by
  iintro ⟨#Hc, Hat⟩
  ihave #HI := (ctx_inv A K c x) $$ Hc
  iapply (Rounds.cell_close ER (Rd A) (Set.mem_univ (K (c, x))) (fun h => h) (R := cellRounds x) (duties_later A c x))
  isplitr; · iexact HI
  iexact Hat

/-- What a finished ring leaves. -/
def ringEnd (c : Dev nD) (di li : Fin 2) : sProp 𝕄 :=
  iprop(ringOf (fun o => semVal (kcell c (some o)) 0) di li ∗ done A c di li 8 ∗ commAny (F := F) c di li)

theorem close_ring (c : Dev nD) (di li : Fin 2) : iprop(ctx A K ∗ RF A c di li) ⊢ (|={Set.univ}=> ringEnd A c di li : sProp 𝕄) := by
  unfold RF ringEnd ringOf posAt
  rw [comm_slots]
  iintro ⟨#Hc, ⟨Hr1, Hr0, Hs0, Hs1⟩, Hp, Hc0, Hc1, Hd, Hf1, Hf0⟩
  imod (close_cell A K c (some ((di, li), none))) $$ [Hp] with Hp
  · isplitr; · iexact Hc
    iexact Hp
  imod (close_cell A K c (some ((di, li), some (.snd, 0)))) $$ [Hs0] with Hs0
  · isplitr; · iexact Hc
    iexact Hs0
  imod (close_cell A K c (some ((di, li), some (.snd, 1)))) $$ [Hs1] with Hs1
  · isplitr; · iexact Hc
    iexact Hs1
  imod (close_cell A K c (some ((di, li), some (.rcv, 0)))) $$ [Hr0] with Hr0
  · isplitr; · iexact Hc
    iexact Hr0
  imod (close_cell A K c (some ((di, li), some (.rcv, 1)))) $$ [Hr1] with Hr1
  · isplitr; · iexact Hc
    iexact Hr1
  imod (close_cell A K c (some ((di, li), some (.cpy, 0)))) $$ [Hc0] with Hc0
  · isplitr; · iexact Hc
    iexact Hc0
  imod (close_cell A K c (some ((di, li), some (.cpy, 1)))) $$ [Hc1] with Hc1
  · isplitr; · iexact Hc
    iexact Hc1
  imodintro
  isplitr [Hd Hf1 Hf0]
  · isplitl [Hp]; · iexact Hp
    isplitl [Hs0]; · iexact Hs0
    isplitl [Hs1]; · iexact Hs1
    isplitl [Hr0]; · iexact Hr0
    isplitl [Hr1]; · iexact Hr1
    isplitl [Hc0]; · iexact Hc0
    iexact Hc1
  isplitl [Hd]; · iexact Hd
  isplitl [Hf0]; · iexact Hf0
  iexact Hf1

theorem bigSep_ctx {I : Type} [DecidableEq I] (S : Finset I) {Φ Ψ : I → sProp 𝕄} (h : ∀ i, iprop(ctx A K ∗ Φ i) ⊢ Ψ i) :
    iprop(ctx A K ∗ bigSep S Φ) ⊢ bigSep S Ψ := by
  refine by_way (bigSep_mono fun i _ => h i) ?_
  rw [bigSep_sep']
  iintro ⟨#Hc, H⟩
  isplitr
  · iapply (BI.bigSep_of_persistent S (ctx A K)); iexact Hc
  iexact H

theorem close_rings (c : Dev nD) : iprop(ctx A K ∗ rings (RF A c)) ⊢ (|={Set.univ}=> rings (ringEnd A c) : sProp 𝕄) := by
  have h1 : iprop(ctx A K ∗ bigSep Finset.univ fun k : Fin 2 × Fin 2 => RF A c k.1 k.2) ⊢ bigSep Finset.univ fun k : Fin 2 × Fin 2 => iprop(|={Set.univ}=> ringEnd A c k.1 k.2) :=
    bigSep_ctx A K Finset.univ fun k => close_ring A K c k.1 k.2
  have h2 : (bigSep Finset.univ fun k : Fin 2 × Fin 2 => iprop(|={Set.univ}=> ringEnd A c k.1 k.2)) ⊢ (|={Set.univ}=> bigSep Finset.univ fun k : Fin 2 × Fin 2 => ringEnd A c k.1 k.2 : sProp 𝕄) :=
    bigSep_fupd _ _
  rw [rings_eq] at h1 h2
  exact by_way h2 h1

/-- What a device's body leaves, apart from the operands and what it owes. -/
def endOf (c : Dev nD) : sProp 𝕄 :=
  iprop((bigSep Finset.univ fun x : Cell => semVal (kcell c x) 0) ∗ rings (commAny (F := F) c) ∗ outDone A c)

theorem end_of (c : Dev nD) : iprop(ctx A K ∗ bodyEnd A c) ⊢ (|={Set.univ}=> iprop(staged A c ∗ owesW c 0 ∗ endOf A c) : sProp 𝕄) := by
  unfold bodyEnd endOf
  rw [cells_eq]
  iintro ⟨#Hc, Hst, Ho, Hb, Hr⟩
  imod (close_cell A K c none) $$ [Hb] with Hb
  · isplitr; · iexact Hc
    iexact Hb
  imod (close_rings A K c) $$ [Hr] with Hr
  · isplitr; · iexact Hc
    iexact Hr
  ihave Hr := (Entails.of_eq (show rings (ringEnd A c) = iprop(rings (ringOf fun o => semVal (kcell c (some o)) 0) ∗ rings (fun di li => done A c di li 8) ∗ rings (commAny (F := F) c)) by
    unfold ringEnd; rw [rings_sep, rings_sep])) $$ Hr
  icases Hr with ⟨Hz, Hd, Hm⟩
  ihave Hd := (out_join A c) $$ Hd
  imodintro
  isplitl [Hst]; · iexact Hst
  isplitl [Ho]; · iexact Ho
  isplitl [Hb Hz]
  · isplitl [Hb]; · iexact Hb
    iexact Hz
  isplitl [Hm]; · iexact Hm
  iexact Hd

/-- An update after a program. -/
theorem WP_close (c : Dev nD) (p : TcProg F PUnit) {C R S : sProp 𝕄} (h : iprop(C ∗ R) ⊢ (|={Set.univ}=> S : sProp 𝕄)) :
    iprop(C ∗ WP c p fun _ => R) ⊢ WP c p fun _ => S := by
  have h1 : iprop(C ∗ WP c p fun _ => R) ⊢ WP c p fun _ => iprop(C ∗ R) := wp_frame_l _ _ _
  have h2 : (WP c p fun _ => iprop(C ∗ R)) ⊢ WP c p fun _ => iprop(|={Set.univ}=> S) := wp_mono _ _ _ fun _ => h
  have h3 : (WP c p fun _ => iprop(|={Set.univ}=> S)) ⊢ WP c p fun _ => S := wp_fupd _ _ _ _ _
  exact by_way h3 (by_way h2 h1)

/-- The body, from what a device starts with to what it leaves. -/
theorem body_run (c : Dev nD) :
    iprop((∃ K : Dev nD × Cell → ℕ, ctx A K) ∗ startOf (F := F) c ∗ rings (commAny (F := F) c) ∗ staged A c ∗ owesW c (O0 c))
      ⊢ WP c (F := F) body fun _ => iprop(staged A c ∗ owesW c 0 ∗ endOf A c) := by
  iintro ⟨⟨%K, #Hc⟩, Hs, Hm, Hst, Ho⟩
  unfold startOf
  icases Hs with ⟨Hb, Ht0, Ht1, Hc2, Hr⟩
  ihave Hm := (Entails.of_eq (show rings (commAny (F := F) c) = iprop(rings (fun di li => freeSlot (F := F) c di li 0) ∗ rings (fun di li => freeSlot (F := F) c di li 1)) by
    rw [← rings_sep]; exact congrArg rings (funext₂ fun di li => comm_slots c di li))) $$ Hm
  icases Hm with ⟨H0, H1⟩
  iapply (WP_close c body (end_of A K c))
  isplitr; · iexact Hc
  iapply (body_wp A K c)
  isplitr; · iexact Hc
  unfold bodyStart
  isplitl [Hst]; · iexact Hst
  isplitl [Ho]; · iexact Ho
  isplitl [Hb]; · iexact Hb
  isplitl [Ht0]; · iexact Ht0
  isplitl [Ht1]; · iexact Ht1
  isplitl [Hc2]; · iexact Hc2
  isplitl [Hr]; · iexact Hr
  isplitl [H0]; · iexact H0
  iexact H1

end Cert.KernelIdeal.Rings
-- ==== Proof.Launch.lean ====
module

public import proofs.«01_k».proof.Proof.Ends
public import Idealize.ShloMosaic.Lib.Pipeline.CollectiveSegs

/-!
# The launch

What the whole run leaves: on every device the two operands unchanged, the result's blocks at what
the rings carried there, and every counter at zero.
-/

@[expose] public section

noncomputable section

namespace Cert.KernelIdeal.Rings

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-- The operands a memory holds. -/
def argsOf : Args F where
  x c := (win0_0.blk (0 : Fin 1)).view.read (Elt F) (m ((c : Thread nD τ).loc main_arg0))
  w c := (win0_1.blk (0 : Fin 1)).view.read (Elt F) (m ((c : Thread nD τ).loc main_arg1))

/-! ## The body's obligation -/

def dats (_ : Fin 1) (c : Dev nD) : Dat τ (Elt F) ℕ ℕ UU ℕ cfg0 c where
  A w := m ((cfg0.win w).arr.view.loc (c : Thread nD τ))
  after w _ := match w with
    | ⟨0, _⟩ => (argsOf m).x c
    | ⟨1, _⟩ => (argsOf m).w c
  Φ t := match t with
    | ⟨0, _⟩ => iprop((∃ K : Dev nD × Cell → ℕ, ctx (argsOf m) K) ∗ startOf (F := F) c ∗ rings (commAny (F := F) c))
    | ⟨_ + 1, _⟩ => endOf (argsOf m) c
  q _ := fullShare
  owed t := match t with
    | ⟨0, _⟩ => O0 c
    | ⟨_ + 1, _⟩ => 0

theorem fetch_0 (t : Fin cfg0.N) : (cfg0.win (0 : Fin 2)).fetch t = true := by rw [fin_N0 t]; rfl
theorem fetch_1 (t : Fin cfg0.N) : (cfg0.win (1 : Fin 2)).fetch t = true := by rw [fin_N0 t]; rfl

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(((∃ K : Dev nD × Cell → ℕ, ctx (argsOf m) K) ∗ startOf (F := F) c ∗ rings (commAny (F := F) c))
    ∗ (dats m 0 c).owesAt 0 t0_0.castSucc
    ∗ (∃ d, stg c cc0_stg0_0 ((dats m 0 c).before (0 : Fin 2) t0_0 d))
    ∗ (∃ d, stg c cc0_stg1_0 ((dats m 0 c).before (1 : Fin 2) t0_0 d)))

def bodyPost (c : Dev nD) : sProp 𝕄 :=
  iprop(endOf (argsOf m) c ∗ (dats m 0 c).owesAt 0 t0_0.succ ∗ stg c cc0_stg0_0 ((argsOf m).x c) ∗ stg c cc0_stg1_0 ((argsOf m).w c))

theorem before_0 (c : Dev nD) (d) : (dats m 0 c).before (0 : Fin 2) t0_0 d = (argsOf m).x c := by
  unfold Dat.before; rw [if_pos (fetch_0 t0_0)]; rfl
theorem before_1 (c : Dev nD) (d) : (dats m 0 c).before (1 : Fin 2) t0_0 d = (argsOf m).w c := by
  unfold Dat.before; rw [if_pos (fetch_1 t0_0)]; rfl

theorem pre_in (c : Dev nD) : bodyPre m c
    ⊢ iprop((∃ K : Dev nD × Cell → ℕ, ctx (argsOf m) K) ∗ startOf (F := F) c ∗ rings (commAny (F := F) c) ∗ staged (argsOf m) c ∗ owesW c (O0 c)) := by
  unfold bodyPre staged owesW
  iintro ⟨⟨HK, Hs, Hm⟩, Ho, ⟨%d0, %g0, %hg0, Hx⟩, ⟨%d1, %g1, %hg1, Hw⟩⟩
  rw [before_0] at hg0; rw [before_1] at hg1
  subst hg0; subst hg1
  unfold Dat.owesAt Pipeline.owesWithin
  icases Ho with ⟨%W, -, HO⟩
  rw [show (dats m 0 c).owed t0_0.castSucc = O0 c from rfl]
  isplitl [HK]; · iexact HK
  isplitl [Hs]; · iexact Hs
  isplitl [Hm]; · iexact Hm
  isplitl [Hx Hw]
  · isplitl [Hx]; · iexact Hx
    iexact Hw
  iexists W; iexact HO

theorem post_out (c : Dev nD) : iprop(staged (argsOf m) c ∗ owesW c 0 ∗ endOf (argsOf m) c) ⊢ bodyPost m c := by
  unfold bodyPost staged owesW
  iintro ⟨⟨Hx, Hw⟩, ⟨%W, HO⟩, He⟩
  isplitl [He]; · iexact He
  isplitl [HO]
  · unfold Dat.owesAt Pipeline.owesWithin
    rw [show (dats m 0 c).owed t0_0.succ = 0 from rfl]
    iexists W
    isplitr; · ipureintro; exact fun _ _ => Or.inl trivial
    iexact HO
  isplitl [Hx]
  · iexists _; isplitr; · (ipureintro; rfl)
    iexact Hx
  iexists _; isplitr; · (ipureintro; rfl)
  iexact Hw

theorem body_sound (c : Dev nD) : bodyPre m c ⊢ WP c (F := F) body fun _ => bodyPost m c := by
  have h : (WP c (F := F) body fun _ => iprop(staged (argsOf m) c ∗ owesW c 0 ∗ endOf (argsOf m) c)) ⊢ WP c (F := F) body fun _ => bodyPost m c :=
    wp_mono _ _ _ fun _ => post_out m c
  exact by_way h (by_way (body_run (argsOf m) c) (pre_in m c))

theorem stage_x (t : Fin cfg0.N) : win0_0.stage (cfg0.slots t 0) = xM := rfl
theorem stage_w (t : Fin cfg0.N) : win0_1.stage (cfg0.slots t 1) = wM := rfl
theorem row_eq (t : Fin cfg0.N) : defs₀ (F := F) Proc.tc 0 (t, cfg0.slots t) =
    cc0_body (win0_0.stage (cfg0.slots t 0)) (hstage0_0 0) (win0_1.stage (cfg0.slots t 1)) (hstage0_1 0) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 := rfl

theorem bodyAt_eq (t : Fin cfg0.N) : cc0_body (F := F) (win0_0.stage (cfg0.slots t 0)) (hstage0_0 0) (win0_1.stage (cfg0.slots t 1)) (hstage0_1 0) oM (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      cc0_scratch4 cc0_scratch5 cc0_scratch6 cc0_scratch7 = body := body_eq

theorem body_at (c : Dev nD) {p : TcProg F PUnit} (hp : p = body) : bodyPre m c ⊢ WP c p fun _ => bodyPost m c := hp ▸ body_sound m c

theorem phi_0 (c : Dev nD) : (dats m 0 c).Φ t0_0.castSucc = iprop((∃ K : Dev nD × Cell → ℕ, ctx (argsOf m) K) ∗ startOf (F := F) c ∗ rings (commAny (F := F) c)) := rfl
theorem phi_1 (c : Dev nD) : (dats m 0 c).Φ t0_0.succ = endOf (argsOf m) c := rfl
theorem after_0 (c : Dev nD) : (dats m 0 c).after (0 : Fin 2) t0_0 = (argsOf m).x c := rfl
theorem after_1 (c : Dev nD) : (dats m 0 c).after (1 : Fin 2) t0_0 = (argsOf m).w c := rfl

theorem body_obligation (c : Dev nD) : BodyObligation (dats (F := F) m 0 c) (defs₀ (F := F)) 𝒱₀ 0 Set.univ := fun t => by
  rw [fin_N0 t]
  rw [bigSep_W0, bigSep_W0]
  simp only [owns_whole_eq]
  have hb : defs₀ (F := F) Proc.tc 0 (t0_0, cfg0.slots t0_0) = body := (row_eq t0_0).trans (bodyAt_eq t0_0)
  generalize defs₀ (F := F) Proc.tc 0 (t0_0, cfg0.slots t0_0) = p at hb ⊢
  exact body_at m c hb

/-! ## What the launch allocates -/

theorem ownSemFacts : Pipeline.OwnSemFacts cfg0.spec ocellSem := by decide

theorem share_eq (c : Dev nD) (w : Fin cfg0.W) : (dats m 0 c).share w = fullShare := by unfold Dat.share; split <;> rfl

def u₀ : UU := (initOf (Pipeline.cells cfgs cellOf_inj) (Pipeline.launchToks cfgs cellOf_inj), initOf allCells allToks)

/-- What the launch deals a device. -/
def G (c : Dev nD) : sProp 𝕄 :=
  iprop((bigSep Finset.univ fun x : Cell => roundState ER (Rd (argsOf m)) (kcell c x) 0)
    ∗ (bigSep Finset.univ fun x : Cell => reached ER (kcell c x) 0)
    ∗ (bigSep Finset.univ fun x : Cell => atPos ER (kcell c x) 0 ∅ 0) ∗ bigSep Finset.univ fun x : Cell => toksOf (F := F) c x)

/-- The invariants without the levels. -/
def know (K : Dev nD × Cell → ℕ) : sProp 𝕄 :=
  iprop((bigSep Finset.univ fun p : Dev nD × Cell => cellInv ER (Rd (argsOf m)) (K p) (kcell p.1 p.2))
    ∗ bigSep Finset.univ fun p : Dev nD × Cell => reached ER (kcell p.1 p.2) 0)

instance know_persistent (K : Dev nD × Cell → ℕ) : BI.Persistent (know m K) := by unfold know; infer_instance

def G' (c : Dev nD) : sProp 𝕄 :=
  iprop((∃ K : Dev nD × Cell → ℕ, know m K) ∗ (bigSep Finset.univ fun x : Cell => atPos ER (kcell c x) 0 ∅ 0) ∗ payToks (F := F) c)

theorem fund_rings : BI.own (ER (initOf allCells allToks)) ⊢ (|==> bigSep Finset.univ (G m) : sProp 𝕄) := by
  iintro HX
  imod (Rounds.fund ER (Rd (argsOf m)) allCells allToks) $$ HX with ⟨Hst, Hr, Hat, Htok⟩
  imodintro
  ihave Hst' := (Entails.of_eq (allCells_eq fun g => roundState ER (Rd (argsOf m)) g 0)) $$ Hst
  ihave Hat' := (Entails.of_eq (allCells_eq fun g => (atPos ER g 0 ∅ 0 : sProp 𝕄))) $$ Hat
  ihave Hr' := (Entails.of_eq (allCells_eq fun g => (reached ER g 0 : sProp 𝕄))) $$ Hr
  ihave Htok' := (Entails.of_eq (allToks_eq (F := F))) $$ Htok
  unfold G; simp only [bigSep_sep']
  isplitl [Hst']; · iexact Hst'
  isplitl [Hr']; · iexact Hr'
  isplitl [Hat']; · iexact Hat'
  iexact Htok'

theorem ownSems0_eq (c : Dev nD) : (Pipeline.ownSems0 (Ix := ℕ) (Name := ℕ) (U := UU) (Lvl := ℕ) (Val := Elt F) (τ := τ) ocellSem c : sProp 𝕄)
    = bigSep Finset.univ fun o : OCell => semVal (kcell c (some o)) 0 := rfl

theorem unscopedSems0_eq (c : Dev nD) : (unscopedSems0 c : sProp 𝕄) = semVal (barC c) 0 := by
  unfold unscopedSems0; rw [bigSep_eq_bigSepL_of_eq [SemLoc.reg barSem] (by decide) (by decide)]; rfl

theorem sems0_eq (c : Dev nD) :
    iprop(unscopedSems0 c ∗ Pipeline.ownSems0 (Ix := ℕ) (Name := ℕ) (U := UU) (Lvl := ℕ) (Val := Elt F) (τ := τ) ocellSem c)
      = (bigSep Finset.univ fun x : Cell => semVal (kcell c x) 0 : sProp 𝕄) := by
  rw [ownSems0_eq, unscopedSems0_eq, bigSep_option fun x : Cell => (semVal (kcell c x) 0 : sProp 𝕄)]

theorem core_alloc (c : Dev nD) :
    iprop(Pipeline.ownSems0 (Ix := ℕ) (Name := ℕ) (U := UU) (Lvl := ℕ) (Val := Elt F) (τ := τ) ocellSem c ∗ unscopedSems0 c ∗ G m c)
      ⊢ |={Set.univ}=> iprop((bigSep Finset.univ fun x : Cell => iprop(∃ κ : ℕ, cellInv ER (Rd (argsOf m)) κ (kcell c x)))
          ∗ (bigSep Finset.univ fun x : Cell => reached ER (kcell c x) 0)
          ∗ (bigSep Finset.univ fun x : Cell => atPos ER (kcell c x) 0 ∅ 0) ∗ bigSep Finset.univ fun x : Cell => toksOf (F := F) c x) := by
  unfold G
  iintro ⟨Hos, Hus, Hst, Hr, Hat, Htok⟩
  ihave Hv := (Entails.of_eq (sems0_eq (F := F) c)) $$ [Hos Hus]
  · isplitl [Hus] <;> iassumption
  have h1 : iprop((bigSep Finset.univ fun x : Cell => semVal (kcell c x) 0) ∗ bigSep Finset.univ fun x : Cell => roundState ER (Rd (argsOf m)) (kcell c x) 0)
      ⊢ (bigSep Finset.univ fun x : Cell => iprop(|={Set.univ}=> ∃ κ : ℕ, cellInv ER (Rd (argsOf m)) κ (kcell c x)) : sProp 𝕄) := by
    rw [← bigSep_sep']
    exact bigSep_mono fun x _ => (Rounds.body_intro ER (Rd (argsOf m)) (kcell c x)).trans inv_alloc
  have h2 : (bigSep Finset.univ fun x : Cell => iprop(|={Set.univ}=> ∃ κ : ℕ, cellInv ER (Rd (argsOf m)) κ (kcell c x)))
      ⊢ (|={Set.univ}=> bigSep Finset.univ fun x : Cell => iprop(∃ κ : ℕ, cellInv ER (Rd (argsOf m)) κ (kcell c x)) : sProp 𝕄) := bigSep_fupd _ _
  imod (by_way h2 h1) $$ [Hv Hst] with Hinv
  · isplitl [Hv] <;> iassumption
  imodintro
  isplitl [Hinv]; · iexact Hinv
  isplitl [Hr]; · iexact Hr
  isplitl [Hat]; · iexact Hat
  iexact Htok

theorem regroup :
    (bigSep Finset.univ fun c : Dev nD => iprop((bigSep Finset.univ fun x : Cell => iprop(∃ κ : ℕ, cellInv ER (Rd (argsOf m)) κ (kcell c x)))
          ∗ (bigSep Finset.univ fun x : Cell => reached ER (kcell c x) 0)
          ∗ (bigSep Finset.univ fun x : Cell => atPos ER (kcell c x) 0 ∅ 0) ∗ bigSep Finset.univ fun x : Cell => toksOf (F := F) c x) : sProp 𝕄)
      ⊢ bigSep Finset.univ (G' m) := by
  unfold G'
  rw [bigSep_sep', bigSep_sep', bigSep_sep', bigSep_sep', bigSep_sep',
    ← bigSep_univ_prod (fun p : Dev nD × Cell => iprop(∃ κ : ℕ, cellInv ER (Rd (argsOf m)) κ (kcell p.1 p.2))),
    ← bigSep_univ_prod (fun p : Dev nD × Cell => (reached ER (kcell p.1 p.2) 0 : sProp 𝕄))]
  iintro ⟨HI, HR, Hat, Htok⟩
  ihave HK := (BI.bigSep_exists_pi Finset.univ (fun (p : Dev nD × Cell) (κ : ℕ) => (cellInv ER (Rd (argsOf m)) κ (kcell p.1 p.2) : sProp 𝕄))) $$ HI
  icases HK with ⟨%K, HI⟩
  ihave Htk := (toks_around (F := F)) $$ Htok
  isplitl [HI HR]
  · have h0 : know m K ⊢ iprop(∃ K : Dev nD × Cell → ℕ, know m K) := by iintro H; iexists K; iexact H
    have h1 : know m K ⊢ bigSep (Finset.univ : Finset (Dev nD)) fun _ => know m K := BI.bigSep_of_persistent Finset.univ (know m K)
    have h2 : (bigSep (Finset.univ : Finset (Dev nD)) fun _ => know m K) ⊢ bigSep (Finset.univ : Finset (Dev nD)) fun _ => iprop(∃ K : Dev nD × Cell → ℕ, know m K) :=
      bigSep_mono fun c _ => h0
    iapply (by_way h2 h1)
    unfold know
    isplitl [HI]; · iexact HI
    iexact HR
  isplitl [Hat]; · iexact Hat
  iexact Htk

theorem glob : (bigSep Finset.univ fun c => iprop(Pipeline.ownSems0 (Ix := ℕ) (Name := ℕ) (U := UU) (Lvl := ℕ) (Val := Elt F) (τ := τ) ocellSem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## Into the call and out of it -/

def callIn (c : Dev nD) : sProp 𝕄 := iprop((∃ K : Dev nD × Cell → ℕ, ctx (argsOf m) K) ∗ startOf (F := F) c)

theorem call_intro (c : Dev nD) :
    iprop(Pipeline.unscopedRestP Pipeline.Prefetch.none cfg0.spec c (fun b => m ((c : Thread nD τ).loc b)) ∗ levAts L lv
        ∗ Pipeline.launchCred O0 c ∗ prngReg c (ρ c) ∗ G' m c)
      ⊢ |={Set.univ}=> iprop(callIn m c ∗ emp) := by
  rw [Pipeline.unscopedRestP_none, unscopedRest0_eq]
  iintro ⟨Hf, Hlev, Hcr, -, HG⟩
  unfold G' callIn
  icases HG with ⟨⟨%K, HK⟩, Hat, Ht⟩
  imodintro
  isplitl
  · isplitl [HK Hlev]
    · iexists K
      unfold know ctx
      icases HK with ⟨HI, HR⟩
      isplitl [HI]; · iexact HI
      isplitl [HR]; · iexact HR
      iexact Hlev
    iapply (start_of (F := F) c (m ((c : Thread nD τ).loc main_v1)))
    isplitl [Hf]; · iexact Hf
    isplitl [Hcr]; · iexact Hcr
    isplitl [Hat]; · iexact Hat
    iexact Ht
  · iempintro

theorem phi_first (c : Dev nD) : (dats m 0 c).Φ 0 = iprop((∃ K : Dev nD × Cell → ℕ, ctx (argsOf m) K) ∗ startOf (F := F) c ∗ rings (commAny (F := F) c)) := rfl
theorem phi_last (c : Dev nD) : (dats m 0 c).Φ (Fin.last cfg0.N) = endOf (argsOf m) c := rfl

theorem call_in (c : Dev nD) :
    iprop(callIn m c ∗ Pipeline.prefHeld Pipeline.Prefetch.none c (fun _ => fullShare.right) (fun k => k.elim0) ∗ Pipeline.scopedRest cfg0.spec c)
      ⊢ (dats m 0 c).Φ 0 := by
  rw [phi_first]
  unfold callIn
  iintro ⟨⟨HK, Hs⟩, -, Hr⟩
  ihave Hr := (Entails.of_eq (scopedRest_comm (F := F) c)) $$ Hr
  isplitl [HK]; · iexact HK
  isplitl [Hs]; · iexact Hs
  iexact Hr

theorem call_out (c : Dev nD) :
    (dats m 0 c).Φ (Fin.last cfg0.N) ⊢ iprop((unscopedSems0 c ∗ outDone (argsOf m) c) ∗ Pipeline.ownSems0 ocellSem c ∗ Pipeline.scopedRest cfg0.spec c) := by
  rw [phi_last]
  unfold endOf
  rw [← sems0_eq]
  iintro ⟨⟨Hu, Ho⟩, Hr, Hd⟩
  isplitl [Hu Hd]
  · isplitl [Hu]; · iexact Hu
    iexact Hd
  isplitl [Ho]; · iexact Ho
  iapply (Entails.of_eq (scopedRest_comm (F := F) c).symm); iexact Hr

theorem waits (c : Dev nD) : (levAts L lv : sProp 𝕄) ⊢ Pipeline.cellsWaits cfgs (dats m) 0 0 c :=
  Pipeline.cellsWaits_intro cfgs (dats m) 0 0 c fun w s t => by
    rcases t with ⟨_ | _, ht⟩
    · exact mayWait c _ (by omega) (O0_above c)
    · exact mayWait c _ (by omega) (Above.zero 0)

/-! ## The run -/

/-- A device's result: every block is what its ring carried there. -/
def Result (A : Args F) (c : Dev nD) (f : (main_v1 : Ref sig .tc).ty.Contents (Elt F)) : Prop :=
  ∀ t : (Fin 2 × Fin 2) × Fin 8, (fun i => f ((oTile c t).emb i)) = X A t.1.1 t.1.2 (t.2.val + 7) c

theorem outDone_eq (A : Args F) (c : Dev nD) :
    (outDone A c : sProp 𝕄) = iprop(∃ f : Buf (Elt F) ((c : Thread nD τ).loc main_v1), ⌜Result A c f⌝ ∗ (((c : Thread nD τ).loc main_v1) ↦{fullShare} f)) := by
  unfold outDone ownsSat
  simp only [Memref.view_whole, View.read_whole, View.set_whole]
  rfl

theorem outDone_read (A : Args F) (c : Dev nD) (s' : Phys nD τ sig (Elt F)) :
    iprop(outDone A c ∗ SI s') ⊢ |={Set.univ}=> (iprop(⌜Result A c (s'.mem.mem ((c : Thread nD τ).loc main_v1))⌝ ∗ SI s') : sProp 𝕄) := by
  rw [outDone_eq]
  iintro ⟨⟨%f, %hf, Hp⟩, HSI⟩
  ihave %h := (SI_pointsTo_agree (st := s') (ℓ := (c : Thread nD τ).loc main_v1) (q := fullShare) (f := f)) $$ [HSI Hp]
  · isplitl [HSI] <;> iassumption
  imodintro
  isplitr
  · ipureintro; rw [show s'.mem.mem ((c : Thread nD τ).loc main_v1) = f from Buf.eq_of_forall_mem_univ h]; exact hf
  iexact HSI

def QC : PUnit × MemSt nD τ sig (Elt F) → Prop := fun r => ∀ c : Dev nD,
  r.2.mem ((c : Thread nD τ).loc main_arg0) = m ((c : Thread nD τ).loc main_arg0)
  ∧ r.2.mem ((c : Thread nD τ).loc main_arg1) = m ((c : Thread nD τ).loc main_arg1)
  ∧ Result (argsOf m) c (r.2.mem ((c : Thread nD τ).loc main_v1))

set_option maxRecDepth 100000 in
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_rings m) $$ HX with HG
      imodintro
      isplitl [HP] <;> iassumption)
    (hglob := glob m)
    (hA := fun _ _ => rfl) (hpf := fun _ k => k.elim0)
    (X := callIn m) (Y := fun c => iprop(unscopedSems0 c ∗ outDone (argsOf m) c)) (Z := fun _ => iprop(emp))
    (hX := call_intro m ρ) (hin := call_in m) (hout := call_out m)
    (QY := fun c s => (∀ sm : SemLoc sig, sm.isScoped .tc = false → s.sem ((c.tc : Thread nD τ), sm) = 0)
      ∧ Result (argsOf m) c (s.mem ((c : Thread nD τ).loc main_v1)))
    (hY := fun c s' => by
      iintro ⟨⟨Hu, Hd⟩, -, HSI⟩
      imod (Pipeline.unscopedSems0_read (X := unscopedSems0 c) (c := c) fupd_intro s') $$ [Hu HSI] with ⟨%h1, HSI⟩
      · isplitl [Hu] <;> iassumption
      imod (outDone_read (argsOf m) c s') $$ [Hd HSI] with ⟨%h2, HSI⟩
      · isplitl [Hd] <;> iassumption
      imodintro
      isplitr
      · ipureintro; exact ⟨h1, h2⟩
      iexact HSI)
    (hQ := fun _ h hs => ⟨fun c => ⟨((h c).1 (0 : Fin 2)).trans ((dats m 0 c).arrAt_in (0 : Fin 2) rfl _),
      ((h c).1 (1 : Fin 2)).trans ((dats m 0 c).arrAt_in (1 : Fin 2) rfl _), (h c).2.2.2⟩, sem_eq_zero hs fun c => (h c).2.2.1⟩)

end Cert.KernelIdeal.Rings
-- ==== Proof.Frames.lean ====
module

public import proofs.«01_k».proof.Defs
public import proofs.«01_k».proof.Proof.Launch
public import proofs.«01_k».proof.Proof.Gen.Kernel
public import proofs.«01_k».proof.Proof.Gen.ReferenceIdeal.Run
public import Idealize.ShloMosaic.Lib.Quiescent
public import Idealize.ShloMosaic.Lib.Tactic

/-!
# The frames

Each program runs to its end, leaves its arguments as they were and every counter at zero.
-/

@[expose] public section

noncomputable section

namespace Cert.Frames

open Idealize.ShloMosaic Idealize.ShloMosaic.TcCoe Idealize.SL.Sem

/-- The frame of the kernel's text over the floats `F`. -/
def Frame (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

theorem frame (F : FTy → Type) [FloatOps F] : Frame F := fun m ρ _ =>
  (θ_run Cert.KernelIdeal.defs _ _).mono (fun _ h => ⟨fun c => ⟨(h.1 c).1, (h.1 c).2.1⟩, h.2⟩) (Cert.KernelIdeal.Rings.run_main (F := F) m ρ)

theorem frame_ideal : Cert.quiescent_KernelIdeal := frame Ideal

/-- The kernel and its idealization are one text. -/
theorem same_text : Frame Bits = Cert.quiescent_Kernel := by sl_kernel_rfl

theorem frame_kernel : Cert.quiescent_Kernel := same_text ▸ frame Bits

theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

end Cert.Frames
-- ==== Proof.Block.lean ====
module

public import proofs.«01_k».proof.Proof.Schedule
public import proofs.«01_k».proof.Proof.Offsets
public import Idealize.ShloMosaic.Lib.ValueIdx
public import Idealize.ShloMosaic.Lib.MatmulPlain
public import Idealize.ShloMosaic.Lib.Pipeline.Value

/-!
# One block in exact arithmetic

An element of a device's partial product is the sum, over the columns of `x` that the device holds, of
the products that the device adds to one element of the result.
-/

@[expose] public section

noncomputable section

namespace Cert.KernelIdeal.Rings

open Idealize.ShloMosaic Idealize.ShloMosaic.TcCoe Idealize.ShloMosaic.ValueIdx
open Cert.KernelIdeal.Gen

/-- A device's operands, as extended reals. -/
def xs (A : Args Ideal) (c : Dev nD) : S4096x512.Idx → EReal := A.x c
def ws (A : Args Ideal) (c : Dev nD) : S512x8192.Idx → EReal := A.w c

/-- What a device adds to the element of the result in row `r` and column `q`. -/
def term (A : Args Ideal) (c : Dev nD) (r : Fin 4096) (q : Fin 8192) : EReal :=
  ∑ k : Fin 512, xs A c (ix2 r k) * ws A c (ix2 k q)

theorem dot_plain : dot_S512x512_S512x4096_S512x4096_1_0_0_1_n_n = DotDims.plain 512 512 4096 := rfl

theorem part_apply (x : Vec Ideal S512x512 .bf16) (w : Vec Ideal S512x4096 .bf16) (r : Fin 512) (q : Fin 4096) :
    part x w (ix2 r q) = ∑ k : Fin 512, ((x (ix2 r k) : EReal) * w (ix2 k q) : EReal) := by
  show FloatOps.matmul dot_S512x512_S512x4096_S512x4096_1_0_0_1_n_n none (shapeCast S512x512 x shapeCasts_S512x512_S512x512)
    (shapeCast S512x4096 w shapeCasts_S512x4096_S512x4096) (constant (F := Ideal) S512x4096 .f32 0x00000000#32) (ix2 r q) = _
  rw [dot_plain, Ideal.matmul_plain_apply, shapeCast_self, shapeCast_self]
  show Ideal.ofBits .f32 0x00000000#32 + _ = _
  rw [Ideal.ofBits_zero_f32, zero_add]

/-- A row half of a product of rows from `512 b` of `x`, read in the result's coordinates. -/
theorem half_apply (A : Args Ideal) (di li : Fin 2) (c : Dev nD) (off : Fin 2 → ℕ) (inb) (b : ℕ) (ho : off = ![512 * b, 0])
    (i : S256x4096.Idx) (r : Fin 4096) (q : Fin 8192) (hr : (r : ℕ) = 512 * b + 256 * li.val + (i 0 : ℕ)) (hq : (q : ℕ) = 4096 * di.val + (i 1 : ℕ)) :
    half li (part (xM.view.readAt (Elt Ideal) (Rect.unit (s := S4096x512) off S512x512.size inb).toLoadRect (A.x c)) (wOf A di c)) i = term A c r q := by
  have h0 : (i 0 : ℕ) < 256 := (i 0).isLt
  have hl : li.val < 2 := li.isLt
  have h1 : (i 1 : ℕ) < 4096 := (i 1).isLt
  refine (extractStridedSlice_apply _ _ (half_slices li) i (ix2 (⟨256 * li.val + (i 0 : ℕ), by omega⟩ : Fin 512) (⟨(i 1 : ℕ), h1⟩ : Fin 4096)) ?_).trans ?_
  · intro a
    match a with
    | 0 => rfl
    | 1 => exact (Nat.zero_add _).symm
  rw [part_apply]
  refine Finset.sum_congr rfl fun k _ => congrArg₂ (· * ·) ?_ ?_
  · refine congrArg (xs A c) (funext fun a => Fin.ext ?_)
    subst ho
    match a with
    | 0 => show 512 * b + 1 * (256 * li.val + (i 0 : ℕ)) = (r : ℕ); omega
    | 1 => show 0 + 1 * (k : ℕ) = (k : ℕ); omega
  · refine congrArg (ws A c) (funext fun a => Fin.ext ?_)
    match a with
    | 0 => show 0 + 1 * (k : ℕ) = (k : ℕ); omega
    | 1 => show 4096 * di.val + 1 * (i 1 : ℕ) = (q : ℕ); omega

theorem P0_apply (A : Args Ideal) (di li : Fin 2) (c : Dev nD) (i : S256x4096.Idx) (r : Fin 4096) (q : Fin 8192)
    (hr : (r : ℕ) = 512 * c.val + 256 * li.val + (i 0 : ℕ)) (hq : (q : ℕ) = 4096 * di.val + (i 1 : ℕ)) :
    half li (P0 A di c) i = term A c r q := half_apply A di li c _ _ c.val (k0_off1_eq c) i r q hr hq

theorem P_apply (A : Args Ideal) (di li : Fin 2) (c : Dev nD) (h : Fin 7) (i : S256x4096.Idx) (r : Fin 4096) (q : Fin 8192)
    (hr : (r : ℕ) = 512 * inChunk di c h + 256 * li.val + (i 0 : ℕ)) (hq : (q : ℕ) = 4096 * di.val + (i 1 : ℕ)) :
    half li (P A di c h) i = term A c r q := half_apply A di li c _ _ _ (xOff_eq di c h) i r q hr hq

end Cert.KernelIdeal.Rings
-- ==== Proof.Total.lean ====
module

public import proofs.«01_k».proof.Proof.Block
public import proofs.«01_k».proof.Proof.Launch

/-!
# What the result holds in exact arithmetic

A ring's copy gathers one term of each device, so every element of the result is the sum of the eight
devices' terms.
-/

@[expose] public section

noncomputable section

namespace Cert.KernelIdeal.Rings

open Idealize.ShloMosaic Idealize.ShloMosaic.TcCoe Idealize.ShloMosaic.ValueIdx
open Cert.KernelIdeal.Gen

/-- The device that is `n` hops up a ring. -/
abbrev ups (di : Fin 2) (n : ℕ) (c : Dev nD) : Dev nD := (upD di)^[n] c

/-- After `h` hops of the reduction, a ring holds the terms of the devices it passed. -/
theorem X_sum (A : Args Ideal) (di li : Fin 2) (i : S256x4096.Idx) (r : Fin 4096) (q : Fin 8192) (b : ℕ)
    (hr : (r : ℕ) = 512 * b + 256 * li.val + (i 0 : ℕ)) (hq : (q : ℕ) = 4096 * di.val + (i 1 : ℕ)) :
    ∀ (h : ℕ) (h7 : h ≤ 7) (c : Dev nD), (ups di h c).val = b → (∀ n (hn : n < h), inChunk di (ups di n c) ⟨h - 1 - n, by omega⟩ = b) →
      X A di li h c i = ∑ n ∈ Finset.range (h + 1), term A (ups di n c) r q
  | 0, _, c, hb, _ => by
    rw [Finset.sum_range_one]
    have hc : c.val = b := hb
    exact P0_apply A di li c i r q (hc ▸ hr) hq
  | h + 1, h7, c, hb, hs => by
    rw [X_red A di li c (show h < 7 by omega), addf_apply, Finset.sum_range_succ' (fun n => term A (ups di n c) r q) (h + 1),
      X_sum A di li i r q b hr hq h (by omega) (upD di c) hb (fun n hn => ?_)]
    · have hc : inChunk di c ⟨h, by omega⟩ = b := hs 0 (by omega)
      rw [P_apply A di li c ⟨h, by omega⟩ i r q (hc ▸ hr) hq]
      rfl
    · have := hs (n + 1) (by omega)
      have e : h + 1 - 1 - (n + 1) = h - 1 - n := by omega
      simp only [e] at this
      exact this

theorem ups_out : ∀ (di : Fin 2) (c : Dev nD), (ups di 7 c).val = outChunk di c 0 := by decide +kernel
theorem ups_in : ∀ (di : Fin 2) (c : Dev nD) (n : Fin 7), inChunk di (ups di n.val c) ⟨7 - 1 - n.val, by omega⟩ = outChunk di c 0 := by decide +kernel
theorem ups_inj : ∀ (di : Fin 2) (c : Dev nD) (n n' : Fin 8), ups di n.val c = ups di n'.val c → n = n' := by decide +kernel
theorem ups_chunk : ∀ (di : Fin 2) (c : Dev nD) (j : Fin 8), outChunk di (ups di j.val c) 0 = outChunk di c j := by decide +kernel

/-- The devices up a ring are all the devices. -/
theorem sum_ups (di : Fin 2) (c : Dev nD) (f : Dev nD → EReal) : ∑ n ∈ Finset.range 8, f (ups di n c) = ∑ d : Dev nD, f d := by
  rw [Finset.sum_range]
  exact Function.Bijective.sum_comp (e := fun n : Fin 8 => ups di n.val c) (Finite.injective_iff_bijective.mp fun n n' => ups_inj di c n n') f

theorem X_full (A : Args Ideal) (di li : Fin 2) (c : Dev nD) (i : S256x4096.Idx) (r : Fin 4096) (q : Fin 8192)
    (hr : (r : ℕ) = 512 * outChunk di c 0 + 256 * li.val + (i 0 : ℕ)) (hq : (q : ℕ) = 4096 * di.val + (i 1 : ℕ)) :
    X A di li 7 c i = ∑ d : Dev nD, term A d r q :=
  (X_sum A di li i r q _ hr hq 7 le_rfl c (ups_out di c) fun n hn => ups_in di c ⟨n, hn⟩).trans (sum_ups di c fun d => term A d r q)

/-- The copies that go round afterwards change nothing. -/
theorem X_round (A : Args Ideal) (di li : Fin 2) : ∀ (j : ℕ) (c : Dev nD), X A di li (j + 7) c = X A di li 7 (ups di j c)
  | 0, _ => rfl
  | j + 1, c => by
    rw [show j + 1 + 7 = j + 7 + 1 by omega, X_gather A di li c (by omega), X_round A di li j (upD di c)]
    rfl

theorem X_out (A : Args Ideal) (di li : Fin 2) (c : Dev nD) (j : Fin 8) (i : S256x4096.Idx) (r : Fin 4096) (q : Fin 8192)
    (hr : (r : ℕ) = 512 * outChunk di c j + 256 * li.val + (i 0 : ℕ)) (hq : (q : ℕ) = 4096 * di.val + (i 1 : ℕ)) :
    X A di li (j.val + 7) c i = ∑ d : Dev nD, term A d r q := by
  rw [X_round]
  exact X_full A di li _ i r q (by rw [ups_chunk]; exact hr) hq

/-- Every element of a device's result. -/
theorem result_apply (A : Args Ideal) (c : Dev nD) (f : Buf (Elt Ideal) ((c : Thread nD τ).loc main_v1)) (hf : Result A c f) (r : Fin 4096) (q : Fin 8192) :
    (f : S4096x8192.Idx → EReal) (ix2 r q) = ∑ d : Dev nD, term A d r q := by
  have hm : (ix2 r q : S4096x8192.Idx) ∈ (Finset.univ : Finset ((Fin 2 × Fin 2) × Fin 8)).biUnion (fun t => (oTile c t).set) := by
    rw [oTile_cover]; exact Finset.mem_univ _
  obtain ⟨t, -, ht⟩ := Finset.mem_biUnion.mp hm
  obtain ⟨b1, b0, b2⟩ := (mem_oRect t.1.1 c t.2 t.1.2 (ix2 r q)).mp ht
  have b1 : (q : ℕ) / 4096 = t.1.1.val := b1
  have b0 : (r : ℕ) / 512 = outChunk t.1.1 c t.2 := b0
  have b2 : (r : ℕ) / 256 % 2 = t.1.2.val := b2
  let i : S256x4096.Idx := ix2 (⟨(r : ℕ) % 256, Nat.mod_lt _ (by decide)⟩ : Fin 256) (⟨(q : ℕ) % 4096, Nat.mod_lt _ (by decide)⟩ : Fin 4096)
  have e0 : (r : ℕ) = 512 * outChunk t.1.1 c t.2 + 256 * t.1.2.val + (r : ℕ) % 256 := by omega
  have e1 : (q : ℕ) = 4096 * t.1.1.val + (q : ℕ) % 4096 := by omega
  have hi : (oTile c t).emb i = ix2 r q := funext fun a => Fin.ext (by
    have h0 : oOff t.1.1 c t.2 t.1.2 0 = 512 * outChunk t.1.1 c t.2 + 256 * t.1.2.val := by rw [oOff_eq]; rfl
    have h1 : oOff t.1.1 c t.2 t.1.2 1 = 4096 * t.1.1.val := by rw [oOff_eq]; rfl
    match a with
    | 0 => show oOff t.1.1 c t.2 t.1.2 0 + 1 * ((r : ℕ) % 256) = (r : ℕ); omega
    | 1 => show oOff t.1.1 c t.2 t.1.2 1 + 1 * ((q : ℕ) % 4096) = (q : ℕ); omega)
  have hv := congrFun (hf t) i
  rw [X_out A t.1.1 t.1.2 c t.2 i r q e0 e1] at hv
  rw [← hi]
  exact hv

end Cert.KernelIdeal.Rings
-- ==== Proof.Whole.lean ====
module

public import proofs.«01_k».proof.Defs
public import proofs.«01_k».proof.Proof.Gen.ReferenceIdeal
public import Idealize.ShloMosaic.Lib.ValueIdx
public import Idealize.ShloMosaic.Lib.StackMember
public import Idealize.ShloMosaic.Lib.Layout

/-!
# What the reference computes in exact arithmetic

An element of the reference's result is one sum over 4096 products; cut in eight runs of 512 it is the
sum of what the devices' blocks of the operands give.
-/

@[expose] public section

noncomputable section

namespace Cert.ReferenceIdeal.Whole

open Idealize.ShloMosaic Idealize.ShloMosaic.ValueIdx
open Cert.ReferenceIdeal Cert.ReferenceIdeal.Gen

theorem dot_plain : dot_S4096x4096_S4096x8192_S4096x8192_1_0_0_1_n_n = DotDims.plain 4096 4096 8192 := rfl

/-- The reference's result as a term of its operands. -/
abbrev value (x : FVec Ideal S4096x4096 .bf16) (w : FVec Ideal S4096x8192 .bf16) : FVec Ideal S4096x8192 .bf16 :=
  truncf .bf16 (Host.dotGeneral dot_S4096x4096_S4096x8192_S4096x8192_1_0_0_1_n_n none (extf .f32 x bitsLt_bf16_f32) (extf .f32 w bitsLt_bf16_f32)) bitsLt_bf16_f32

theorem value_apply (x : FVec Ideal S4096x4096 .bf16) (w : FVec Ideal S4096x8192 .bf16) (r : Fin 4096) (q : Fin 8192) :
    value x w (ix2 r q) = ∑ k : Fin 4096, (x (ix2 r k) : EReal) * w (ix2 k q) := by
  show Host.dotGeneral dot_S4096x4096_S4096x8192_S4096x8192_1_0_0_1_n_n none (extf .f32 x bitsLt_bf16_f32) (extf .f32 w bitsLt_bf16_f32) (ix2 r q) = _
  rw [dot_plain]
  exact StackMember.dotGeneral_plain_apply none _ _ r q

/-- A sum over 4096 is eight sums over 512. -/
theorem sum_runs (f : Fin 4096 → EReal) : ∑ k : Fin 4096, f k = ∑ d : Fin 8, ∑ k : Fin 512, f ⟨512 * d.val + k.val, by omega⟩ := by
  rw [← Finset.sum_product', Finset.univ_product_univ, ← Equiv.sum_comp (finProdFinEquiv (m := 8) (n := 512)) f]
  refine Finset.sum_congr rfl fun p _ => congrArg f (Fin.ext ?_)
  show p.2.val + 512 * p.1.val = 512 * p.1.val + p.2.val
  omega

theorem value_blocks (x : FVec Ideal S4096x4096 .bf16) (w : FVec Ideal S4096x8192 .bf16) (r : Fin 4096) (q : Fin 8192) :
    value x w (ix2 r q) = ∑ d : Fin 8, ∑ k : Fin 512,
      ((Layout.block ⟨2, ![4096, 512]⟩ ⟨2, ![4096, 4096]⟩ 1 8 d x : _ → EReal) (ix2 r k))
        * (Layout.block ⟨2, ![512, 8192]⟩ ⟨2, ![4096, 8192]⟩ 0 8 d w : _ → EReal) (ix2 k q) := by
  rw [value_apply, sum_runs]
  refine Finset.sum_congr rfl fun d _ => Finset.sum_congr rfl fun k _ => congrArg₂ (· * ·) ?_ ?_
  · refine congrArg x (funext fun a => Fin.ext ?_)
    match a with
    | 0 => rfl
    | 1 => show 512 * d.val + k.val = d.val * 512 + k.val; omega
  · refine congrArg w (funext fun a => Fin.ext ?_)
    match a with
    | 0 => show 512 * d.val + k.val = d.val * 512 + k.val; omega
    | 1 => rfl

end Cert.ReferenceIdeal.Whole
-- ==== Proof.Equation.lean ====
module

public import proofs.«01_k».proof.Proof.Frames
public import proofs.«01_k».proof.Proof.Total
public import proofs.«01_k».proof.Proof.Whole

/-!
# The kernel's result is the reference's

On every device the whole result holds, element by element, what the reference's one product holds.
-/

@[expose] public section

noncomputable section

namespace Cert.Equation

open Idealize.ShloMosaic Idealize.ShloMosaic.TcCoe Idealize.ShloMosaic.ValueIdx Idealize.SL.Sem
open Cert.KernelIdeal.Rings

/-- The operands staged for a device are its argument arrays. -/
theorem xs_argsOf (m) (c : Dev Cert.KernelIdeal.nD) :
    xs (argsOf m) c = m ((c.tc : Thread Cert.KernelIdeal.nD Cert.KernelIdeal.τ).loc Cert.KernelIdeal.main_arg0) := by
  funext i
  exact congrArg (m ((c.tc : Thread Cert.KernelIdeal.nD Cert.KernelIdeal.τ).loc Cert.KernelIdeal.main_arg0)) (funext fun a => Fin.ext (by
    match a with
    | 0 => show 0 + 1 * (i 0 : ℕ) = (i 0 : ℕ); omega
    | 1 => show 0 + 1 * (i 1 : ℕ) = (i 1 : ℕ); omega))

theorem ws_argsOf (m) (c : Dev Cert.KernelIdeal.nD) :
    ws (argsOf m) c = m ((c.tc : Thread Cert.KernelIdeal.nD Cert.KernelIdeal.τ).loc Cert.KernelIdeal.main_arg1) := by
  funext i
  exact congrArg (m ((c.tc : Thread Cert.KernelIdeal.nD Cert.KernelIdeal.τ).loc Cert.KernelIdeal.main_arg1)) (funext fun a => Fin.ext (by
    match a with
    | 0 => show 0 + 1 * (i 0 : ℕ) = (i 0 : ℕ); omega
    | 1 => show 0 + 1 * (i 1 : ℕ) = (i 1 : ℕ); omega))

/-- A result made of the rings' blocks is the reference's term of the whole operands. -/
theorem result_eq (A : Args Ideal) (x : FVec Ideal Cert.ReferenceIdeal.S4096x4096 .bf16) (w : FVec Ideal Cert.ReferenceIdeal.S4096x8192 .bf16)
    (hx : ∀ d : Dev Cert.KernelIdeal.nD, xs A d = Layout.block ⟨2, ![4096, 512]⟩ ⟨2, ![4096, 4096]⟩ 1 8 d x)
    (hw : ∀ d : Dev Cert.KernelIdeal.nD, ws A d = Layout.block ⟨2, ![512, 8192]⟩ ⟨2, ![4096, 8192]⟩ 0 8 d w)
    (c : Dev Cert.KernelIdeal.nD) (f : Buf (Elt Ideal) ((c.tc : Thread Cert.KernelIdeal.nD Cert.KernelIdeal.τ).loc Cert.KernelIdeal.main_v1)) (hf : Result A c f) :
    f = Cert.ReferenceIdeal.Whole.value x w := by
  funext i
  rw [eq_ix2 i]
  refine (result_apply A c f hf (i 0) (i 1)).trans ((Cert.ReferenceIdeal.Whole.value_blocks x w (i 0) (i 1)).trans ?_).symm
  refine Finset.sum_congr rfl fun d _ => ?_
  rw [← hx d, ← hw d]
  rfl

theorem algebraic : Cert.algebraic_KernelIdeal_ReferenceIdeal := by
  intro m g m' g' _ hm
  refine ⟨Cert.ReferenceIdeal.Whole.value (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨?_, (h.1 c).1, (h.1 c).2.1⟩) (run_main (F := Ideal) m g)
    exact result_eq (argsOf m) _ _ (fun d => (xs_argsOf m d).trans (hm d).1) (fun d => (ws_argsOf m d).trans (hm d).2) c _ (h.1 c).2.2
  · exact (θ_run Cert.ReferenceIdeal.defs _ _).mono (fun r h => h 0) (Cert.ReferenceIdeal.Value.run (F := Ideal) m' g')

end Cert.Equation
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Frames.frame_kernel, Cert.Frames.frame_ideal, Cert.Frames.frame_reference, trivial, Cert.Equation.algebraic⟩

end Cert.Proof

end
